-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S2x4x128x1024 : Shape := ⟨4, ![2, 4, 128, 1024]⟩
abbrev S2x3x4x128x1024 : Shape := ⟨5, ![2, 3, 4, 128, 1024]⟩
abbrev S48 : Shape := ⟨1, ![48]⟩
abbrev S_ : Shape := ⟨0, ![]⟩
abbrev S128x1024 : Shape := ⟨2, ![128, 1024]⟩
abbrev S1x1x128x1024 : Shape := ⟨4, ![1, 1, 128, 1024]⟩
abbrev S1 : Shape := ⟨1, ![1]⟩
abbrev S1x1x1x128x1024 : Shape := ⟨5, ![1, 1, 1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .local _ .vmem, ⟨0, _⟩ => ⟨S4096x1024, .f32⟩
  | .local _ .vmem, ⟨1, _⟩ => ⟨S1024x1024, .f32⟩
  | .local _ .vmem, ⟨2, _⟩ => ⟨S4096x1024, .f32⟩
  | .local _ .vmem, ⟨3, _⟩ => ⟨S2x4x128x1024, .bf16⟩
  | .local _ .vmem, ⟨4, _⟩ => ⟨S2x3x4x128x1024, .bf16⟩
  | .local _ .vmem, ⟨5, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_20 : BitVec 32) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let v31 : BitVec 32 := Scalar.subi v30 c0_i32_20
  let c4_i32_21 : BitVec 32 := 4#32
  let c0_i32_22 : BitVec 32 := 0#32
  let v32 : BitVec 1 := Scalar.cmpi .eq c4_i32_21 c0_i32_22
  let c1_i32_23 : BitVec 32 := 1#32
  let v33 : BitVec 32 := Scalar.select v32 c1_i32_23 c4_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c1024_i32 : BitVec 32 := 1024#32
  let v42 : BitVec 32 := Scalar.muli v41 c1024_i32
  let c0_i32_27 : BitVec 32 := 0#32
  let v43 : BitVec 32 := Scalar.addi v42 c0_i32_27
  let v44 : BitVec 32 := Scalar.addi v43 c0_i32_28
  let v45 : Index := Scalar.indexCast v44
  let c0 : Index := 0#32
  ![v45.toNat, 0]
def k0_off2 (d0 : Dev nD) (c0_i32_52 : BitVec 32) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v82 : BitVec 32 := Scalar.addi v2 c1_i32_51
  let v83 : BitVec 32 := Scalar.addi v82 c0_i32_52
  let c4_i32_53 : BitVec 32 := 4#32
  let c0_i32_54 : BitVec 32 := 0#32
  let v84 : BitVec 1 := Scalar.cmpi .eq c4_i32_53 c0_i32_54
  let c1_i32_55 : BitVec 32 := 1#32
  let v85 : BitVec 32 := Scalar.select v84 c1_i32_55 c4_i32_53
  let v86 : BitVec 32 := Scalar.remsi v83 v85
  let c0_i32_57 : BitVec 32 := 0#32
  let v88 : BitVec 1 := Scalar.cmpi .slt v86 c0_i32_57
  let c0_i32_58 : BitVec 32 := 0#32
  let v89 : BitVec 1 := Scalar.cmpi .slt v85 c0_i32_58
  let v90 : BitVec 1 := Scalar.xori v88 v89
  let c0_i32_56 : BitVec 32 := 0#32
  let v87 : BitVec 1 := Scalar.cmpi .ne v86 c0_i32_56
  let v91 : BitVec 1 := Scalar.andi v90 v87
  let v92 : BitVec 32 := Scalar.addi v86 v85
  let v93 : BitVec 32 := Scalar.select v91 v92 v86
  let c1024_i32_59 : BitVec 32 := 1024#32
  let v94 : BitVec 32 := Scalar.muli v93 c1024_i32_59
  let c512_i32 : BitVec 32 := 512#32
  let v95 : BitVec 32 := Scalar.addi v94 c512_i32
  let v96 : BitVec 32 := Scalar.addi v95 c0_i32_60
  let v97 : Index := Scalar.indexCast v96
  let c0_61 : Index := 0#32
  ![v97.toNat, 0]
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_97 : BitVec 32 := 1#32
  let v134 : BitVec 32 := Scalar.muli v24 c1_i32_97
  let v135 : BitVec 32 := Scalar.addi c0_i32_98 v134
  v135.toNat
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_110 : BitVec 32 := 1#32
  let v144 : BitVec 32 := Scalar.muli v24 c1_i32_110
  let v145 : BitVec 32 := Scalar.addi c0_i32_111 v144
  v145.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_123 : BitVec 32 := 1#32
  let v154 : BitVec 32 := Scalar.muli v24 c1_i32_123
  let v155 : BitVec 32 := Scalar.addi c0_i32_124 v154
  v155.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_135 : BitVec 32 := 1#32
  let v164 : BitVec 32 := Scalar.muli v24 c1_i32_135
  let v165 : BitVec 32 := Scalar.addi c0_i32_136 v164
  v165.toNat
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_147 : BitVec 32 := 1#32
  let v174 : BitVec 32 := Scalar.muli v13 c1_i32_147
  let v175 : BitVec 32 := Scalar.addi c0_i32_148 v174
  v175.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v184 : BitVec 32 := Scalar.muli v13 c1_i32_159
  let v185 : BitVec 32 := Scalar.addi c0_i32_160 v184
  v185.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_171 : BitVec 32 := 1#32
  let v194 : BitVec 32 := Scalar.muli v13 c1_i32_171
  let v195 : BitVec 32 := Scalar.addi c0_i32_172 v194
  v195.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_183 : BitVec 32 := 1#32
  let v204 : BitVec 32 := Scalar.muli v13 c1_i32_183
  let v205 : BitVec 32 := Scalar.addi c0_i32_184 v204
  v205.toNat
def k0_dev11 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_244 : BitVec 32 := 1#32
  let v256 : BitVec 32 := Scalar.muli v24 c1_i32_244
  let v257 : BitVec 32 := Scalar.addi c0_i32_245 v256
  v257.toNat
def k0_dev12 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_294 : BitVec 32 := 1#32
  let v293 : BitVec 32 := Scalar.muli v24 c1_i32_294
  let v294 : BitVec 32 := Scalar.addi c0_i32_295 v293
  v294.toNat
def k0_dev13 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_344 : BitVec 32 := 1#32
  let v330 : BitVec 32 := Scalar.muli v24 c1_i32_344
  let v331 : BitVec 32 := Scalar.addi c0_i32_345 v330
  v331.toNat
def k0_dev14 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_394 : BitVec 32 := 1#32
  let v367 : BitVec 32 := Scalar.muli v24 c1_i32_394
  let v368 : BitVec 32 := Scalar.addi c0_i32_395 v367
  v368.toNat
def k0_dev15 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_452 : BitVec 32 := 1#32
  let v416 : BitVec 32 := Scalar.muli v13 c1_i32_452
  let v417 : BitVec 32 := Scalar.addi c0_i32_453 v416
  v417.toNat
def k0_dev16 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_502 : BitVec 32 := 1#32
  let v453 : BitVec 32 := Scalar.muli v13 c1_i32_502
  let v454 : BitVec 32 := Scalar.addi c0_i32_503 v453
  v454.toNat
def k0_dev17 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_552 : BitVec 32 := 1#32
  let v490 : BitVec 32 := Scalar.muli v13 c1_i32_552
  let v491 : BitVec 32 := Scalar.addi c0_i32_553 v490
  v491.toNat
def k0_dev18 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_602 : BitVec 32 := 1#32
  let v527 : BitVec 32 := Scalar.muli v13 c1_i32_602
  let v528 : BitVec 32 := Scalar.addi c0_i32_603 v527
  v528.toNat
def k0_dev19 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_660 : BitVec 32 := 1#32
  let v576 : BitVec 32 := Scalar.muli v24 c1_i32_660
  let v577 : BitVec 32 := Scalar.addi c0_i32_661 v576
  v577.toNat
def k0_dev20 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_710 : BitVec 32 := 1#32
  let v613 : BitVec 32 := Scalar.muli v24 c1_i32_710
  let v614 : BitVec 32 := Scalar.addi c0_i32_711 v613
  v614.toNat
def k0_dev21 (d0 : Dev nD) : Nat :=
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_760 : BitVec 32 := 1#32
  let v650 : BitVec 32 := Scalar.muli v24 c1_i32_760
  let v651 : BitVec 32 := Scalar.addi c0_i32_761 v650
  v651.toNat
def k0_dev22 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_810 : BitVec 32 := 1#32
  let v687 : BitVec 32 := Scalar.muli v24 c1_i32_810
  let v688 : BitVec 32 := Scalar.addi c0_i32_811 v687
  v688.toNat
def k0_dev23 (d0 : Dev nD) : Nat :=
  let c0_i32_869 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_868 : BitVec 32 := 1#32
  let v736 : BitVec 32 := Scalar.muli v13 c1_i32_868
  let v737 : BitVec 32 := Scalar.addi c0_i32_869 v736
  v737.toNat
def k0_dev24 (d0 : Dev nD) : Nat :=
  let c0_i32_919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_918 : BitVec 32 := 1#32
  let v773 : BitVec 32 := Scalar.muli v13 c1_i32_918
  let v774 : BitVec 32 := Scalar.addi c0_i32_919 v773
  v774.toNat
def k0_dev25 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_968 : BitVec 32 := 1#32
  let v810 : BitVec 32 := Scalar.muli v13 c1_i32_968
  let v811 : BitVec 32 := Scalar.addi c0_i32_969 v810
  v811.toNat
def k0_dev26 (d0 : Dev nD) : Nat :=
  let c0_i32_1019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1018 : BitVec 32 := 1#32
  let v847 : BitVec 32 := Scalar.muli v13 c1_i32_1018
  let v848 : BitVec 32 := Scalar.addi c0_i32_1019 v847
  v848.toNat
def k0_off3 (d0 : Dev nD) (c0_i32_1043 : BitVec 32) (c0_i32_1044 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1042 : BitVec 32 := 1024#32
  let v867 : BitVec 32 := Scalar.muli v2 c1024_i32_1042
  let v868 : BitVec 32 := Scalar.addi v867 c0_i32_1043
  let v869 : BitVec 32 := Scalar.addi v868 c0_i32_1044
  let v870 : Index := Scalar.indexCast v869
  let c0_1045 : Index := 0#32
  ![v870.toNat, 0]
def k0_off4 (d0 : Dev nD) (c0_i32_1050 : BitVec 32) (c0_i32_1059 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v884 : BitVec 32 := Scalar.subi v2 c0_i32_1050
  let c4_i32_1051 : BitVec 32 := 4#32
  let c0_i32_1052 : BitVec 32 := 0#32
  let v885 : BitVec 1 := Scalar.cmpi .eq c4_i32_1051 c0_i32_1052
  let c1_i32_1053 : BitVec 32 := 1#32
  let v886 : BitVec 32 := Scalar.select v885 c1_i32_1053 c4_i32_1051
  let v887 : BitVec 32 := Scalar.remsi v884 v886
  let c0_i32_1055 : BitVec 32 := 0#32
  let v889 : BitVec 1 := Scalar.cmpi .slt v887 c0_i32_1055
  let c0_i32_1056 : BitVec 32 := 0#32
  let v890 : BitVec 1 := Scalar.cmpi .slt v886 c0_i32_1056
  let v891 : BitVec 1 := Scalar.xori v889 v890
  let c0_i32_1054 : BitVec 32 := 0#32
  let v888 : BitVec 1 := Scalar.cmpi .ne v887 c0_i32_1054
  let v892 : BitVec 1 := Scalar.andi v891 v888
  let v893 : BitVec 32 := Scalar.addi v887 v886
  let v894 : BitVec 32 := Scalar.select v892 v893 v887
  let c1024_i32_1057 : BitVec 32 := 1024#32
  let v895 : BitVec 32 := Scalar.muli v894 c1024_i32_1057
  let c0_i32_1058 : BitVec 32 := 0#32
  let v896 : BitVec 32 := Scalar.addi v895 c0_i32_1058
  let v897 : BitVec 32 := Scalar.addi v896 c0_i32_1059
  let c0_i32_1063 : BitVec 32 := 0#32
  ![v897.toNat, 0]
def k0_dev27 (d0 : Dev nD) : Nat :=
  let c0_i32_1062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1061 : BitVec 32 := 1#32
  let v898 : BitVec 32 := Scalar.muli v24 c1_i32_1061
  let v899 : BitVec 32 := Scalar.addi c0_i32_1062 v898
  v899.toNat
def k0_dev28 (d0 : Dev nD) : Nat :=
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1103 : BitVec 32 := 1#32
  let v947 : BitVec 32 := Scalar.muli v24 c1_i32_1103
  let v948 : BitVec 32 := Scalar.addi c0_i32_1104 v947
  v948.toNat
def k0_dev29 (d0 : Dev nD) : Nat :=
  let c0_i32_1146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1145 : BitVec 32 := 1#32
  let v996 : BitVec 32 := Scalar.muli v24 c1_i32_1145
  let v997 : BitVec 32 := Scalar.addi c0_i32_1146 v996
  v997.toNat
def k0_dev30 (d0 : Dev nD) : Nat :=
  let c0_i32_1188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1045 : BitVec 32 := Scalar.muli v24 c1_i32_1187
  let v1046 : BitVec 32 := Scalar.addi c0_i32_1188 v1045
  v1046.toNat
def k0_off5 (d0 : Dev nD) (c0_i32_1218 : BitVec 32) (c0_i32_1227 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1080 : BitVec 32 := Scalar.addi v2 c0_i32_1218
  let c4_i32_1219 : BitVec 32 := 4#32
  let c0_i32_1220 : BitVec 32 := 0#32
  let v1081 : BitVec 1 := Scalar.cmpi .eq c4_i32_1219 c0_i32_1220
  let c1_i32_1221 : BitVec 32 := 1#32
  let v1082 : BitVec 32 := Scalar.select v1081 c1_i32_1221 c4_i32_1219
  let v1083 : BitVec 32 := Scalar.remsi v1080 v1082
  let c0_i32_1223 : BitVec 32 := 0#32
  let v1085 : BitVec 1 := Scalar.cmpi .slt v1083 c0_i32_1223
  let c0_i32_1224 : BitVec 32 := 0#32
  let v1086 : BitVec 1 := Scalar.cmpi .slt v1082 c0_i32_1224
  let v1087 : BitVec 1 := Scalar.xori v1085 v1086
  let c0_i32_1222 : BitVec 32 := 0#32
  let v1084 : BitVec 1 := Scalar.cmpi .ne v1083 c0_i32_1222
  let v1088 : BitVec 1 := Scalar.andi v1087 v1084
  let v1089 : BitVec 32 := Scalar.addi v1083 v1082
  let v1090 : BitVec 32 := Scalar.select v1088 v1089 v1083
  let c1024_i32_1225 : BitVec 32 := 1024#32
  let v1091 : BitVec 32 := Scalar.muli v1090 c1024_i32_1225
  let c512_i32_1226 : BitVec 32 := 512#32
  let v1092 : BitVec 32 := Scalar.addi v1091 c512_i32_1226
  let v1093 : BitVec 32 := Scalar.addi v1092 c0_i32_1227
  let c0_i32_1231 : BitVec 32 := 0#32
  ![v1093.toNat, 0]
def k0_dev31 (d0 : Dev nD) : Nat :=
  let c0_i32_1230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1229 : BitVec 32 := 1#32
  let v1094 : BitVec 32 := Scalar.muli v13 c1_i32_1229
  let v1095 : BitVec 32 := Scalar.addi c0_i32_1230 v1094
  v1095.toNat
def k0_dev32 (d0 : Dev nD) : Nat :=
  let c0_i32_1272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1271 : BitVec 32 := 1#32
  let v1143 : BitVec 32 := Scalar.muli v13 c1_i32_1271
  let v1144 : BitVec 32 := Scalar.addi c0_i32_1272 v1143
  v1144.toNat
def k0_dev33 (d0 : Dev nD) : Nat :=
  let c0_i32_1314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1313 : BitVec 32 := 1#32
  let v1192 : BitVec 32 := Scalar.muli v13 c1_i32_1313
  let v1193 : BitVec 32 := Scalar.addi c0_i32_1314 v1192
  v1193.toNat
def k0_dev34 (d0 : Dev nD) : Nat :=
  let c0_i32_1356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1355 : BitVec 32 := 1#32
  let v1241 : BitVec 32 := Scalar.muli v13 c1_i32_1355
  let v1242 : BitVec 32 := Scalar.addi c0_i32_1356 v1241
  v1242.toNat
def k0_dev35 (d0 : Dev nD) : Nat :=
  let c0_i32_1387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1386 : BitVec 32 := 1#32
  let v1283 : BitVec 32 := Scalar.muli v24 c1_i32_1386
  let v1284 : BitVec 32 := Scalar.addi c0_i32_1387 v1283
  v1284.toNat
def k0_dev36 (d0 : Dev nD) : Nat :=
  let c0_i32_1418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1417 : BitVec 32 := 1#32
  let v1325 : BitVec 32 := Scalar.muli v24 c1_i32_1417
  let v1326 : BitVec 32 := Scalar.addi c0_i32_1418 v1325
  v1326.toNat
def k0_dev37 (d0 : Dev nD) : Nat :=
  let c0_i32_1449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1448 : BitVec 32 := 1#32
  let v1367 : BitVec 32 := Scalar.muli v24 c1_i32_1448
  let v1368 : BitVec 32 := Scalar.addi c0_i32_1449 v1367
  v1368.toNat
def k0_dev38 (d0 : Dev nD) : Nat :=
  let c0_i32_1480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1479 : BitVec 32 := 1#32
  let v1409 : BitVec 32 := Scalar.muli v24 c1_i32_1479
  let v1410 : BitVec 32 := Scalar.addi c0_i32_1480 v1409
  v1410.toNat
def k0_dev39 (d0 : Dev nD) : Nat :=
  let c0_i32_1511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1510 : BitVec 32 := 1#32
  let v1451 : BitVec 32 := Scalar.muli v13 c1_i32_1510
  let v1452 : BitVec 32 := Scalar.addi c0_i32_1511 v1451
  v1452.toNat
def k0_dev40 (d0 : Dev nD) : Nat :=
  let c0_i32_1542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1541 : BitVec 32 := 1#32
  let v1493 : BitVec 32 := Scalar.muli v13 c1_i32_1541
  let v1494 : BitVec 32 := Scalar.addi c0_i32_1542 v1493
  v1494.toNat
def k0_dev41 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1572 : BitVec 32 := 1#32
  let v1535 : BitVec 32 := Scalar.muli v13 c1_i32_1572
  let v1536 : BitVec 32 := Scalar.addi c0_i32_1573 v1535
  v1536.toNat
def k0_dev42 (d0 : Dev nD) : Nat :=
  let c0_i32_1604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1603 : BitVec 32 := 1#32
  let v1577 : BitVec 32 := Scalar.muli v13 c1_i32_1603
  let v1578 : BitVec 32 := Scalar.addi c0_i32_1604 v1577
  v1578.toNat
def k0_dev43 (d0 : Dev nD) : Nat :=
  let c0_i32_1691 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1690 : BitVec 32 := 1#32
  let v1707 : BitVec 32 := Scalar.muli v24 c1_i32_1690
  let v1708 : BitVec 32 := Scalar.addi c0_i32_1691 v1707
  v1708.toNat
def k0_dev44 (d0 : Dev nD) : Nat :=
  let c0_i32_1722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1721 : BitVec 32 := 1#32
  let v1749 : BitVec 32 := Scalar.muli v24 c1_i32_1721
  let v1750 : BitVec 32 := Scalar.addi c0_i32_1722 v1749
  v1750.toNat
def k0_dev45 (d0 : Dev nD) : Nat :=
  let c0_i32_1753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1752 : BitVec 32 := 1#32
  let v1791 : BitVec 32 := Scalar.muli v24 c1_i32_1752
  let v1792 : BitVec 32 := Scalar.addi c0_i32_1753 v1791
  v1792.toNat
def k0_dev46 (d0 : Dev nD) : Nat :=
  let c0_i32_1784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1783 : BitVec 32 := 1#32
  let v1833 : BitVec 32 := Scalar.muli v24 c1_i32_1783
  let v1834 : BitVec 32 := Scalar.addi c0_i32_1784 v1833
  v1834.toNat
def k0_dev47 (d0 : Dev nD) : Nat :=
  let c0_i32_1815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1814 : BitVec 32 := 1#32
  let v1875 : BitVec 32 := Scalar.muli v13 c1_i32_1814
  let v1876 : BitVec 32 := Scalar.addi c0_i32_1815 v1875
  v1876.toNat
def k0_dev48 (d0 : Dev nD) : Nat :=
  let c0_i32_1846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1845 : BitVec 32 := 1#32
  let v1917 : BitVec 32 := Scalar.muli v13 c1_i32_1845
  let v1918 : BitVec 32 := Scalar.addi c0_i32_1846 v1917
  v1918.toNat
def k0_dev49 (d0 : Dev nD) : Nat :=
  let c0_i32_1877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1876 : BitVec 32 := 1#32
  let v1959 : BitVec 32 := Scalar.muli v13 c1_i32_1876
  let v1960 : BitVec 32 := Scalar.addi c0_i32_1877 v1959
  v1960.toNat
def k0_dev50 (d0 : Dev nD) : Nat :=
  let c0_i32_1908 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1907 : BitVec 32 := 1#32
  let v2001 : BitVec 32 := Scalar.muli v13 c1_i32_1907
  let v2002 : BitVec 32 := Scalar.addi c0_i32_1908 v2001
  v2002.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S1024x1024 : Shape := ⟨2, ![1024, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/-
# The kernel's body as a structured program

One device's body of the ring all-reduce: the program in phases, each phase one step repeated over the two
directions of the ring and the four segments of a half chunk. The step is written once, generic in the direction,
the hop and the segment. The equation with the printed body is at the end.
-/
module

public import proofs.«01_k».proof.Proof.Gen.KernelIdeal.Skeleton

@[expose] public section

noncomputable section

namespace Cert.RingProof

open Cert.KernelIdeal Cert.KernelIdeal.Gen
open Idealize.ShloMosaic Idealize.SL.Sem

variable {F : FTy → Type} [FloatOps F]

/-! ## The buffers -/

/-- The device's rows of `t`. -/
abbrev tM : Memref sig .tc .vmem S4096x1024 .f32 := Memref.whole cc0_stg0_0
/-- The weights. -/
abbrev wM : Memref sig .tc .vmem S1024x1024 .f32 := Memref.whole cc0_stg1_0
/-- The result. -/
abbrev oM : Memref sig .tc .vmem S4096x1024 .f32 := Memref.whole cc0_stg2_0
/-- The buffer the reduction sends from. -/
abbrev sM : Memref sig .tc .vmem S2x4x128x1024 .bf16 := Memref.whole cc0_scratch0
/-- The buffer the reduction receives into. -/
abbrev vM : Memref sig .tc .vmem S2x3x4x128x1024 .bf16 := Memref.whole cc0_scratch1
/-- The buffer the finished chunks are gathered in. -/
abbrev gM : Memref sig .tc .vmem S4096x1024 .bf16 := Memref.whole cc0_scratch2

/-! ## Rectangles -/

theorem sR_inb : ∀ (d : Fin 2) (s : Fin 4), ∀ a, (![d.val, s.val, 0, 0] : Fin 4 → Nat) a + S1x1x128x1024.size a ≤ S2x4x128x1024.size a := by decide +kernel
/-- Slot `(d, s)` of the sending buffer. -/
abbrev sR (d : Fin 2) (s : Fin 4) : Rect S2x4x128x1024 := Rect.unit (s := S2x4x128x1024) ![d.val, s.val, 0, 0] S1x1x128x1024.size (sR_inb d s)
theorem sR_packed : ∀ (d : Fin 2) (s : Fin 4), (sR d s).PackedRows (EltTy.packing .bf16) := by decide +kernel
theorem sR_words : ∀ (d : Fin 2) (s : Fin 4), (sR d s).WholeWords (EltTy.packing .bf16) := by decide +kernel

theorem vR_inb : ∀ (d : Fin 2) (h : Fin 3) (s : Fin 4), ∀ a, (![d.val, h.val, s.val, 0, 0] : Fin 5 → Nat) a + S1x1x1x128x1024.size a ≤ S2x3x4x128x1024.size a := by decide +kernel
/-- Slot `(d, h, s)` of the receiving buffer. -/
abbrev vR (d : Fin 2) (h : Fin 3) (s : Fin 4) : Rect S2x3x4x128x1024 := Rect.unit (s := S2x3x4x128x1024) ![d.val, h.val, s.val, 0, 0] S1x1x1x128x1024.size (vR_inb d h s)
theorem vR_words : ∀ (d : Fin 2) (h : Fin 3) (s : Fin 4), (vR d h s).WholeWords (EltTy.packing .bf16) := by decide +kernel

/-- Where the rows that arrive at hop `h` start, as the program computes it. -/
abbrev inOff (c : Dev nD) (d : Fin 2) (h : Fin 3) (s : Fin 4) : Fin 2 → Nat :=
  match d with
  | 0 => k0_off1 c (BitVec.ofNat 32 h.val) (BitVec.ofNat 32 (128 * s.val))
  | 1 => k0_off2 c (BitVec.ofNat 32 h.val) (BitVec.ofNat 32 (128 * s.val))
/-- Where the rows that leave at hop `h` of the gathering start, as the program computes it. -/
abbrev lnOff (c : Dev nD) (d : Fin 2) (h : Fin 3) (s : Fin 4) : Fin 2 → Nat :=
  match d with
  | 0 => k0_off4 c (BitVec.ofNat 32 h.val) (BitVec.ofNat 32 (128 * s.val))
  | 1 => k0_off5 c (BitVec.ofNat 32 h.val) (BitVec.ofNat 32 (128 * s.val))
/-- Where the device's own rows start, as the program computes it. -/
abbrev ownOff (c : Dev nD) (d : Fin 2) (s : Fin 4) : Fin 2 → Nat :=
  k0_off3 c (BitVec.ofNat 32 (512 * d.val)) (BitVec.ofNat 32 (128 * s.val))

/-- A block of 128 rows of a whole chunked array, at an offset. -/
abbrev rowsR (o : Fin 2 → Nat) (h : ∀ a, o a + S128x1024.size a ≤ S4096x1024.size a) : Rect S4096x1024 :=
  Rect.unit (s := S4096x1024) o S128x1024.size h

theorem inOff_inb (c : Dev nD) (d : Fin 2) (h : Fin 3) (s : Fin 4) : ∀ a, inOff c d h s a + S128x1024.size a ≤ S4096x1024.size a :=
  match d with
  | 0 => k0_off1_inb c h s
  | 1 => k0_off2_inb c h s
theorem lnOff_inb (c : Dev nD) (d : Fin 2) (h : Fin 3) (s : Fin 4) : ∀ a, lnOff c d h s a + S128x1024.size a ≤ S4096x1024.size a :=
  match d with
  | 0 => k0_off4_inb c h s
  | 1 => k0_off5_inb c h s
theorem lnOff_words (c : Dev nD) (d : Fin 2) (h : Fin 3) (s : Fin 4) : (rowsR (lnOff c d h s) (lnOff_inb c d h s)).WholeWords (EltTy.packing .bf16) :=
  match d with
  | 0 => k0_off4_wordsbf16 c h s
  | 1 => k0_off5_wordsbf16 c h s
theorem ownOff_inb (c : Dev nD) (d : Fin 2) (s : Fin 4) : ∀ a, ownOff c d s a + S128x1024.size a ≤ S4096x1024.size a :=
  k0_off3_inb c d s
theorem ownOff_packed (c : Dev nD) (d : Fin 2) (s : Fin 4) : (rowsR (ownOff c d s) (ownOff_inb c d s)).PackedRows (EltTy.packing .bf16) :=
  k0_off3_packedbf16 c d s

/-! ## Windows the transfers name -/

/-- Slot `(d, s)` of the sending buffer, as a matrix. -/
abbrev sW (d : Fin 2) (s : Fin 4) : Memref sig .tc .vmem S128x1024 .bf16 := (sM.slice (sR d s) (fun _ => rfl)).squeeze S128x1024 squeezes_S1x1x128x1024_S128x1024
/-- Slot `(d, h, s)` of the receiving buffer, as a matrix. -/
abbrev vW (d : Fin 2) (h : Fin 3) (s : Fin 4) : Memref sig .tc .vmem S128x1024 .bf16 := (vM.slice (vR d h s) (fun _ => rfl)).squeeze S128x1024 squeezes_S1x1x1x128x1024_S128x1024
/-- A block of 128 rows of the gathering buffer. -/
abbrev gW (o : Fin 2 → Nat) (h : ∀ a, o a + S128x1024.size a ≤ S4096x1024.size a) : Memref sig .tc .vmem S128x1024 .bf16 := gM.slice (rowsR o h) (fun _ => rfl)

theorem sW_words (d : Fin 2) (s : Fin 4) : (sW d s).view.WordExact := ((Memref.isWhole_whole _).wordExact_slice rfl _ (sR_words d s)).reshape _ _
theorem vW_words (d : Fin 2) (h : Fin 3) (s : Fin 4) : (vW d h s).view.WordExact := ((Memref.isWhole_whole _).wordExact_slice rfl _ (vR_words d h s)).reshape _ _
theorem gW_words (c : Dev nD) (d : Fin 2) (h : Fin 3) (s : Fin 4) : (gW (lnOff c d h s) (lnOff_inb c d h s)).view.WordExact :=
  (Memref.isWhole_whole _).wordExact_slice rfl _ (lnOff_words c d h s)

/-! ## Semaphores and neighbours -/

theorem ix_inb : ∀ k : Fin 48, ∀ a, (![k.val] : Fin 1 → Nat) a + S1.size a ≤ S48.size a := by decide +kernel
/-- The `k`-th sending semaphore. -/
abbrev sendS (k : Fin 48) : DmaSem sig := ((cc0_scratch3.slice (Rect.unit (s := S48) ![k.val] S1.size (ix_inb k))).squeeze S_ squeezes_S1_S_).sem
/-- The `k`-th receiving semaphore. -/
abbrev recvS (k : Fin 48) : DmaSem sig := ((cc0_scratch4.slice (Rect.unit (s := S48) ![k.val] S1.size (ix_inb k))).squeeze S_ squeezes_S1_S_).sem
/-- The barrier semaphore. -/
abbrev barS : Sem sig := (SemArray.scalar (sig.barrier 0 rfl) : Sems sig S_).sem

/-- The number of the pair of semaphores of a transfer: `p = 0` for the reduction, `p = 1` for the gathering, hop `h`. -/
def semIx (p : Fin 2) (h : Fin 3) (d : Fin 2) (s : Fin 4) : Fin 48 :=
  ⟨24 * p.val + 12 * d.val + 4 * h.val + s.val, by have := p.isLt; have := h.isLt; have := d.isLt; have := s.isLt; omega⟩

/-- The device a transfer of direction `d` goes to, as the program computes it. -/
abbrev nbP (c : Dev nD) (d : Fin 2) : Dev nD :=
  match d with
  | 0 => ⟨k0_dev3 c, k0_dev3_lt c⟩
  | 1 => ⟨k0_dev7 c, k0_dev7_lt c⟩

/-! ## The steps -/

local notation "𝕂" => Prog (TpuEff nD τ sig (Elt F) Λ₀ Proc.tc) PUnit

/-- Signal the barrier of a neighbour. -/
abbrev sigStep (b : Dev nD) (k : 𝕂) : 𝕂 := .op (.semSignal (b, .tc) barS (1#32 : BitVec 32).toInt) fun _ => k

/-- Copy a segment of the first chunk into the sending buffer, rounded. -/
def fillStep (c : Dev nD) (d : Fin 2) (s : Fin 4) (k : 𝕂) : 𝕂 :=
  .op (.load tM (rowsR (inOff c d 0 s) (inOff_inb c d 0 s)).toLoadRect (View.loadsAt_vmem h_S128x1024)) fun v =>
  .op (.load sM (sR d s).toLoadRect (View.loadsAt_vmem h_S1x1x128x1024)) fun _ =>
  .op (.store sM (sR d s) (k0_pay1 v) Finset.univ (View.stores_vmem h_S1x1x128x1024 ((Memref.isWhole_whole _).storeExact_slice rfl _ (sR_packed d s)) (fun _ => rfl)) (.inl rfl)) fun _ => k

/-- Send a slot of the sending buffer to the neighbour's slot of hop `h`. -/
def sendStep (c : Dev nD) (h : Fin 3) (d : Fin 2) (s : Fin 4) (k : 𝕂) : 𝕂 :=
  .op (.enqueueDma (sW d s) (.remote (Dev.tc (nbP c d)) (vW d h s) (.dma (sendS (semIx 0 h d s)))) (.dma (recvS (semIx 0 h d s))) (sW_words d s) (vW_words d h s) ⟨⟨rfl, Or.inl rfl⟩, trivial⟩) fun _ => k

/-- Wait for the arrival of a hop of the reduction. -/
def waitRecvStep (h : Fin 3) (d : Fin 2) (s : Fin 4) (k : 𝕂) : 𝕂 :=
  .op (.waitDma2 (recvS (semIx 0 h d s)) (sW d s) (vW d h s) (sW_words d s) (vW_words d h s)) fun _ => k

/-- Wait for the departure of a hop of the reduction. -/
def waitSendStep (h : Fin 3) (d : Fin 2) (s : Fin 4) (k : 𝕂) : 𝕂 :=
  .op (.waitDma2 (sendS (semIx 0 h d s)) (vW d h s) (sW d s) (vW_words d h s) (sW_words d s)) fun _ => k

/-- Add the device's own segment to the one that arrived at hop `h`, into the sending buffer. -/
def addStep (c : Dev nD) (h h' : Fin 3) (d : Fin 2) (s : Fin 4) (k : 𝕂) : 𝕂 :=
  .op (.load vM (vR d h s).toLoadRect (View.loadsAt_vmem h_S1x1x1x128x1024)) fun r =>
  .op (.load tM (rowsR (inOff c d h' s) (inOff_inb c d h' s)).toLoadRect (View.loadsAt_vmem h_S128x1024)) fun v =>
  .op (.load sM (sR d s).toLoadRect (View.loadsAt_vmem h_S1x1x128x1024)) fun _ =>
  .op (.store sM (sR d s) (k0_pay11 r v) Finset.univ (View.stores_vmem h_S1x1x128x1024 ((Memref.isWhole_whole _).storeExact_slice rfl _ (sR_packed d s)) (fun _ => rfl)) (.inl rfl)) fun _ => k

/-- One later hop of the reduction: `h` the hop that arrived, `h'` the next. -/
def redStep (c : Dev nD) (h h' : Fin 3) (d : Fin 2) (s : Fin 4) (k : 𝕂) : 𝕂 :=
  waitRecvStep h d s <| waitSendStep h d s <| addStep c h h' d s <| sendStep c h' d s k

/-- Finish a segment of the device's own chunk: add the last arrival, multiply by the weights. -/
def mulStep (c : Dev nD) (w : FVec F S1024x1024 .bf16) (d : Fin 2) (s : Fin 4) (k : 𝕂) : 𝕂 :=
  .op (.load vM (vR d 2 s).toLoadRect (View.loadsAt_vmem h_S1x1x1x128x1024)) fun r =>
  .op (.load tM (rowsR (ownOff c d s) (ownOff_inb c d s)).toLoadRect (View.loadsAt_vmem h_S128x1024)) fun v =>
  .op (.load gM (rowsR (ownOff c d s) (ownOff_inb c d s)).toLoadRect (View.loadsAt_vmem h_S128x1024)) fun _ =>
  .op (.store gM (rowsR (ownOff c d s) (ownOff_inb c d s)) (k0_pay30 w r v) Finset.univ (View.stores_vmem h_S128x1024 ((Memref.isWhole_whole _).storeExact_slice rfl _ (ownOff_packed c d s)) (fun _ => rfl)) (.inl rfl)) fun _ => k

/-- Send rows of the gathering buffer to the neighbour, hop `h` of the gathering. -/
def gSendStep (c : Dev nD) (h : Fin 3) (d : Fin 2) (s : Fin 4) (k : 𝕂) : 𝕂 :=
  .op (.enqueueDma (gW (lnOff c d h s) (lnOff_inb c d h s)) (.remote (Dev.tc (nbP c d)) (gW (lnOff c d h s) (lnOff_inb c d h s)) (.dma (sendS (semIx 1 h d s)))) (.dma (recvS (semIx 1 h d s))) (gW_words c d h s) (gW_words c d h s) ⟨⟨rfl, Or.inl rfl⟩, trivial⟩) fun _ => k

/-- Wait for the arrival of a hop of the gathering. -/
def gWaitRecvStep (c : Dev nD) (h : Fin 3) (d : Fin 2) (s : Fin 4) (k : 𝕂) : 𝕂 :=
  .op (.waitDma2 (recvS (semIx 1 h d s)) (gW (lnOff c d h s) (lnOff_inb c d h s)) (gW (lnOff c d h s) (lnOff_inb c d h s)) (gW_words c d h s) (gW_words c d h s)) fun _ => k

/-- Wait for the departure of a hop of the gathering. -/
def gWaitSendStep (c : Dev nD) (h : Fin 3) (d : Fin 2) (s : Fin 4) (k : 𝕂) : 𝕂 :=
  .op (.waitDma2 (sendS (semIx 1 h d s)) (gW (lnOff c d h s) (lnOff_inb c d h s)) (gW (lnOff c d h s) (lnOff_inb c d h s)) (gW_words c d h s) (gW_words c d h s)) fun _ => k

/-- The last arrival of the reduction, the product, and the first hop of the gathering. -/
def finStep (c : Dev nD) (w : FVec F S1024x1024 .bf16) (d : Fin 2) (s : Fin 4) (k : 𝕂) : 𝕂 :=
  waitRecvStep 2 d s <| mulStep c w d s <| gSendStep c 0 d s k

/-- A later hop of the gathering: `h` the hop that arrived, `h'` the next. -/
def gatStep (c : Dev nD) (h h' : Fin 3) (d : Fin 2) (s : Fin 4) (k : 𝕂) : 𝕂 :=
  gWaitRecvStep c h d s <| gSendStep c h' d s k

/-- Copy 128 rows of the gathering buffer to the result, widened. -/
def copyStep (o : Fin 2 → Nat) (ho : ∀ a, o a + S128x1024.size a ≤ S4096x1024.size a) (k : 𝕂) : 𝕂 :=
  .op (.load gM (rowsR o ho).toLoadRect (View.loadsAt_vmem h_S128x1024)) fun v =>
  .op (.load oM (rowsR o ho).toLoadRect (View.loadsAt_vmem h_S128x1024)) fun _ =>
  .op (.store oM (rowsR o ho) (k0_pay40 v) Finset.univ (View.stores_vmem_bits_univ h_S128x1024 rfl) (.inl rfl)) fun _ => k

/-- Copy the rows that arrived at hop `h` of the gathering to the result. -/
def outStep (c : Dev nD) (h : Fin 3) (d : Fin 2) (s : Fin 4) (k : 𝕂) : 𝕂 := copyStep (inOff c d h s) (inOff_inb c d h s) k
/-- Copy the device's own rows to the result. -/
def ownStep (c : Dev nD) (d : Fin 2) (s : Fin 4) (k : 𝕂) : 𝕂 := copyStep (ownOff c d s) (ownOff_inb c d s) k
/-- The last arrival of the gathering and its copy to the result. -/
def lastStep (c : Dev nD) (d : Fin 2) (s : Fin 4) (k : 𝕂) : 𝕂 := gWaitRecvStep c 2 d s <| outStep c 2 d s k

/-! ## The program -/

/-- A step for each of the four segments. -/
def four (st : Fin 4 → 𝕂 → 𝕂) (k : 𝕂) : 𝕂 := st 0 (st 1 (st 2 (st 3 k)))
/-- A step for each direction and segment. -/
def lanes (st : Fin 2 → Fin 4 → 𝕂 → 𝕂) (k : 𝕂) : 𝕂 := four (st 0) (four (st 1) k)

/-- One device's body. -/
def bodyK (c : Dev nD) : 𝕂 :=
  sigStep ⟨k0_dev1 c, k0_dev1_lt c⟩ <| sigStep ⟨k0_dev2 c, k0_dev2_lt c⟩ <|
  lanes (fillStep c) <|
  .op (.semWait barS (2#32 : BitVec 32).toInt) fun _ =>
  lanes (sendStep c 0) <|
  .op (.load wM (Rect.unit (s := S1024x1024) ![0, 0] S1024x1024.size inb_S1024x1024_S1024x1024_0_0).toLoadRect (View.loadsAt_vmem h_S1024x1024)) fun w =>
  lanes (redStep c 0 1) <| lanes (redStep c 1 2) <|
  lanes (finStep c (k0_pay10 w)) <|
  lanes (gatStep c 0 1) <| lanes (outStep c 0) <|
  lanes (gatStep c 1 2) <| lanes (outStep c 1) <|
  four (lastStep c 0) <| four (ownStep c 0) <| four (lastStep c 1) <| four (ownStep c 1) <|
  lanes (waitSendStep 2) <| lanes (gWaitSendStep c 0) <| lanes (gWaitSendStep c 1) <| lanes (gWaitSendStep c 2) <|
  .ret ⟨⟩

set_option maxRecDepth 100000 in
set_option maxHeartbeats 4000000 in
/-- The printed body, at the launch's buffers, is the structured program. -/
theorem body_eq : cc0_body (F := F) tM (Memref.isWhole_whole _) wM (Memref.isWhole_whole _) oM (Memref.isWhole_whole _) sM (Memref.isWhole_whole _)
    vM (Memref.isWhole_whole _) gM (Memref.isWhole_whole _) cc0_scratch3 cc0_scratch4 = .op .deviceId fun c => bodyK c := by
  rfl

end Cert.RingProof
-- ==== Proof.Values.lean ====
/-
# What the ring computes, block by block

The ring of four devices seen from one device; where the rows of a transfer lie; what one block of 128 rows holds at
every hop of the reduction and of the gathering.
-/
module

public import proofs.«01_k».proof.Proof.Prog

@[expose] public section

noncomputable section

namespace Cert.RingProof

open Cert.KernelIdeal Cert.KernelIdeal.Gen
open Idealize.ShloMosaic Idealize.SL.Sem

variable {F : FTy → Type} [FloatOps F]

/-! ## The ring -/

/-- The device `n` steps further round the ring. -/
def rot (c : Dev nD) (n : Nat) : Dev nD := ⟨(c.val + n) % 4, Nat.mod_lt _ (by decide)⟩

/-- The device a transfer of direction `d` goes to: direction 0 goes up the ring, direction 1 down. -/
def nb (d : Fin 2) (c : Dev nD) : Dev nD := match d with | 0 => rot c 1 | 1 => rot c 3
/-- The device a transfer of direction `d` comes from. -/
def bk (d : Fin 2) (c : Dev nD) : Dev nD := match d with | 0 => rot c 3 | 1 => rot c 1
/-- The chunk whose rows arrive at hop `h` of the gathering, and are added at hop `h` of the reduction. -/
def inCh (c : Dev nD) (d : Fin 2) (h : Nat) : Dev nD := match d with | 0 => rot c (3 * h + 3) | 1 => rot c (h + 1)
/-- The chunk whose rows leave at hop `h` of the gathering. -/
def lnCh (c : Dev nD) (d : Fin 2) (h : Nat) : Dev nD := match d with | 0 => rot c (3 * h) | 1 => rot c h

theorem nb_bk : ∀ (d : Fin 2) (c : Dev nD), nb d (bk d c) = c := by decide
theorem bk_nb : ∀ (d : Fin 2) (c : Dev nD), bk d (nb d c) = c := by decide
theorem nb_flip : ∀ (c : Dev nD), nb 0 (nb 1 c) = c ∧ nb 1 (nb 0 c) = c := by decide
theorem lnCh_zero : ∀ (c : Dev nD) (d : Fin 2), lnCh c d 0 = c := by decide
theorem lnCh_succ : ∀ (c : Dev nD) (d : Fin 2) (h : Fin 3), lnCh c d (h.val + 1) = inCh c d h.val := by decide
theorem inCh_nb : ∀ (c : Dev nD) (d : Fin 2) (h : Fin 3), inCh (nb d c) d h.val = lnCh c d h.val := by decide
theorem lnCh_bk : ∀ (c : Dev nD) (d : Fin 2) (h : Fin 3), lnCh (bk d c) d h.val = inCh c d h.val := by decide

theorem nbP_eq : ∀ (c : Dev nD) (d : Fin 2), nbP c d = nb d c := by decide +kernel
theorem dev1_eq : ∀ c : Dev nD, (⟨k0_dev1 c, k0_dev1_lt c⟩ : Dev nD) = nb 1 c := by decide +kernel
theorem dev2_eq : ∀ c : Dev nD, (⟨k0_dev2 c, k0_dev2_lt c⟩ : Dev nD) = nb 0 c := by decide +kernel

/-! ## The rows of a block -/

/-- Where block `(j, d, s)` starts: chunk `j`, half `d`, segment `s`. -/
def segOff (j : Dev nD) (d : Fin 2) (s : Fin 4) : Fin 2 → Nat := ![1024 * j.val + 512 * d.val + 128 * s.val, 0]

theorem segOff_inb : ∀ (j : Dev nD) (d : Fin 2) (s : Fin 4), ∀ a, segOff j d s a + S128x1024.size a ≤ S4096x1024.size a := by decide +kernel

theorem inOff_eq : ∀ (c : Dev nD) (d : Fin 2) (h : Fin 3) (s : Fin 4), inOff c d h s = segOff (inCh c d h.val) d s := by decide +kernel
theorem lnOff_eq : ∀ (c : Dev nD) (d : Fin 2) (h : Fin 3) (s : Fin 4), lnOff c d h s = segOff (lnCh c d h.val) d s := by decide +kernel
theorem ownOff_eq : ∀ (c : Dev nD) (d : Fin 2) (s : Fin 4), ownOff c d s = segOff c d s := by decide +kernel

/-- The rows of block `(j, d, s)`. -/
abbrev segR (j : Dev nD) (d : Fin 2) (s : Fin 4) : Rect S4096x1024 := rowsR (segOff j d s) (segOff_inb j d s)
/-- Block `(j, d, s)` of the gathering buffer. -/
abbrev gS (j : Dev nD) (d : Fin 2) (s : Fin 4) : Memref sig .tc .vmem S128x1024 .bf16 := gW (segOff j d s) (segOff_inb j d s)
/-- Block `(j, d, s)` of the result. -/
abbrev oS (j : Dev nD) (d : Fin 2) (s : Fin 4) : Memref sig .tc .vmem S128x1024 .f32 := oM.slice (segR j d s) (fun _ => rfl)

/-- The contents of block `(j, d, s)` of an array. -/
def seg {α : Type} (X : S4096x1024.Idx → α) (j : Dev nD) (d : Fin 2) (s : Fin 4) : S128x1024.Idx → α := fun i => X ((segR j d s).emb i)

theorem gW_congr {o o' : Fin 2 → Nat} (h : o = o') (ho ho') : gW o ho = gW o' ho' := by subst h; rfl
theorem rowsR_congr {o o' : Fin 2 → Nat} (h : o = o') (ho ho') : rowsR o ho = rowsR o' ho' := by subst h; rfl
theorem gW_in (c : Dev nD) (d : Fin 2) (h : Fin 3) (s : Fin 4) : gW (inOff c d h s) (inOff_inb c d h s) = gS (inCh c d h.val) d s := gW_congr (inOff_eq c d h s) _ _
theorem gW_ln (c : Dev nD) (d : Fin 2) (h : Fin 3) (s : Fin 4) : gW (lnOff c d h s) (lnOff_inb c d h s) = gS (lnCh c d h.val) d s := gW_congr (lnOff_eq c d h s) _ _
theorem gW_own (c : Dev nD) (d : Fin 2) (s : Fin 4) : gW (ownOff c d s) (ownOff_inb c d s) = gS c d s := gW_congr (ownOff_eq c d s) _ _

theorem emb_congr {α : Type} (X : S4096x1024.Idx → α) {o o' : Fin 2 → Nat} (h : o = o') (ho ho') :
    (fun i : S128x1024.Idx => X ((rowsR o ho).emb i)) = fun i : S128x1024.Idx => X ((rowsR o' ho').emb i) := by subst h; rfl

/-! ## What a block holds -/

/-- A block rounded to the width the ring carries. -/
def rnd (v : FVec F S128x1024 .f32) : FVec F S128x1024 .bf16 := truncf .bf16 v bitsLt_bf16_f32

/-- The product of a block with the weights, rounded. -/
def mulW (w : FVec F S1024x1024 .bf16) (x : FVec F S128x1024 .bf16) : FVec F S128x1024 .bf16 :=
  truncf .bf16 (matmul dot_S128x1024_S1024x1024_S128x1024_1_0_0_1_n_n none x w (constant S128x1024 .f32 0x00000000#32)) bitsLt_bf16_f32

/-- What is stored of the device's own first segment. -/
theorem pay1_apply (v : FVec F S128x1024 .f32) (hq : S1x1x128x1024.Squeezes S128x1024) :
    (fun y => k0_pay1 v (Shape.reshapeEquiv hq.numel_eq y)) = rnd v := by
  funext y
  unfold k0_pay1 rnd
  simp [shapeCast, truncf, Shape.reshapeEquiv_reshapeEquiv]

/-- What is stored of an arrival and the device's own segment: their sum. -/
theorem pay11_apply (X : FVec F S128x1024 .bf16) (v : FVec F S128x1024 .f32) (hq : S1x1x128x1024.Squeezes S128x1024) (hq' : S1x1x1x128x1024.Squeezes S128x1024) :
    (fun y => k0_pay11 (fun i => X ((Shape.reshapeEquiv hq'.numel_eq).symm i)) v (Shape.reshapeEquiv hq.numel_eq y)) = addf X (rnd v) := by
  funext y
  unfold k0_pay11 rnd
  simp [shapeCast, truncf, addf, Shape.reshapeEquiv_reshapeEquiv]

/-- What is stored of the last arrival and the device's own segment: the product of their sum. -/
theorem pay30_apply (w : FVec F S1024x1024 .bf16) (X : FVec F S128x1024 .bf16) (v : FVec F S128x1024 .f32) (hq' : S1x1x1x128x1024.Squeezes S128x1024) :
    k0_pay30 w (fun i => X ((Shape.reshapeEquiv hq'.numel_eq).symm i)) v = mulW w (addf X (rnd v)) := by
  have h : (shapeCast S128x1024 (fun i => X ((Shape.reshapeEquiv hq'.numel_eq).symm i)) shapeCasts_S1x1x1x128x1024_S128x1024 : FVec F S128x1024 .bf16) = X := by
    funext y; simp [shapeCast]
  have h' : (shapeCast S128x1024 v shapeCasts_S128x1024_S128x1024 : FVec F S128x1024 .f32) = v := by
    funext y; simp [shapeCast]
  unfold k0_pay30 mulW rnd
  simp only [h, h']
  funext y
  simp [shapeCast]

section

variable (T : Dev nD → FVec F S4096x1024 .f32) (W : Dev nD → FVec F S1024x1024 .f32)

/-- What device `c` sends at hop `h` of the reduction, direction `d`, segment `s`: the sum so far. -/
def sv (d : Fin 2) (s : Fin 4) : Nat → Dev nD → FVec F S128x1024 .bf16
  | 0, c => rnd (seg (T c) (inCh c d 0) d s)
  | h + 1, c => addf (sv d s h (bk d c)) (rnd (seg (T c) (inCh c d (h + 1)) d s))

/-- What device `c` finishes of its own chunk. -/
def yv (c : Dev nD) (d : Fin 2) (s : Fin 4) : FVec F S128x1024 .bf16 :=
  mulW (k0_pay10 (W c)) (addf (sv T d s 2 (bk d c)) (rnd (seg (T c) c d s)))

/-- What device `c` sends: hop `h` of the reduction (`p = 0`) or of the gathering (`p = 1`). -/
def xval (c : Dev nD) (p : Fin 2) (h : Fin 3) (d : Fin 2) (s : Fin 4) : FVec F S128x1024 .bf16 :=
  match p with
  | 0 => sv T d s h.val c
  | 1 => yv T W (lnCh c d h.val) d s

/-- What every device's result holds at block `(j, d, s)`. -/
def outv (j : Dev nD) (d : Fin 2) (s : Fin 4) : FVec F S128x1024 .f32 := k0_pay40 (yv T W j d s)

end

end Cert.RingProof
-- ==== Proof.Window.lean ====
/-
# Loads and stores at a window of a buffer

A core that holds a rectangle of a buffer, by itself or seen through a squeeze, reads and writes it there.
-/
module

public import Idealize.ShloMosaic.Lib.Pipeline.Kit
public import Idealize.ShloMosaic.Lib.Tactic
public import Idealize.ShloMosaic.Lib.Memref
public import Idealize.ShloMosaic.Lib.MemrefSat

@[expose] public section

noncomputable section

namespace Cert.RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {α : Type} {Q : α → sProp (MT nD τ sig Ix Val Name U Lvl)} {s : Shape} {e : EltTy} {cs : CoreSpace}

/-- A load at a rectangle held by itself reads what is held. -/
theorem wp_load_win {m : Memref sig c.2.kind cs s e} {r : Rect s} {hr : ∀ a, r.stride a = 1} {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
        -∗ wp frame (wpE defs 𝒱 c bd) E (.op (.load m r.toLoadRect hl) k) Q) := by
  unfold owns
  iintro ⟨%f, %hf, H⟩ Hk
  iapply (wp_load_rect 𝒱 c bd E (m := m) (r := r) (f := f) (q := q) (S := (m.slice r hr).view.set) (Finset.Subset.refl _)) $$ H
  iintro H
  rw [show (m.access r).read Val f = X from hf]
  iapply Hk
  iexists f
  isplitr; · ipureintro; exact hf
  iexact H

/-- A load at a rectangle held through a squeeze reads what is held, at the rectangle's own shape. -/
theorem wp_load_sq {m : Memref sig c.2.kind cs s e} {r : Rect s} {hr : ∀ a, r.stride a = 1} {hl : m.view.LoadsAt r.toLoadRect}
    {s' : Shape} {hq : r.shape.Squeezes s'}
    {k : (r.shape.Idx → Val e) → Prog (TpuEff nD τ sig Val Λ c.2) α} {q : PosShare TreeShare} {X : s'.Idx → Val e} :
    (owns c ((m.slice r hr).squeeze s' hq) q X : sProp 𝕄)
      ⊢ iprop((owns c ((m.slice r hr).squeeze s' hq) q X -∗ wp frame (wpE defs 𝒱 c bd) E (k fun i => X ((Shape.reshapeEquiv hq.numel_eq).symm i)) Q)
        -∗ wp frame (wpE defs 𝒱 c bd) E (.op (.load m r.toLoadRect hl) k) Q) := by
  unfold owns
  iintro ⟨%f, %hf, H⟩ Hk
  iapply (wp_load_rect 𝒱 c bd E (m := m) (r := r) (f := f) (q := q) (S := ((m.slice r hr).squeeze s' hq).view.set)
    (by intro x hx; exact (View.set_reshape (v := m.view.slice r) (s' := s') hq.numel_eq).symm ▸ hx)) $$ H
  iintro H
  rw [show (m.access r).read Val f = fun i => X ((Shape.reshapeEquiv hq.numel_eq).symm i) from by
    rw [← hf]; funext i
    show (m.access r).read Val f i = (m.access r).read Val f (Shape.reshapeEquiv hq.numel_eq ((Shape.reshapeEquiv hq.numel_eq).symm i))
    rw [Equiv.apply_symm_apply]]
  iapply Hk
  iexists f
  isplitr; · ipureintro; exact hf
  iexact H

/-- A load at a rectangle of a memref held as one piece reads that part of what is held. -/
theorem wp_load_sub {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun i => X (r.emb i)) Q)
        -∗ wp frame (wpE defs 𝒱 c bd) E (.op (.load m r.toLoadRect hl) k) Q) := by
  unfold owns
  iintro ⟨%f, %hf, H⟩ Hk
  iapply (wp_load_rect 𝒱 c bd E (m := m) (r := r) (f := f) (q := q) (S := m.view.set)
    (by show (m.view.slice r).set ⊆ _; exact View.set_slice_subset _ _)) $$ H
  iintro H
  rw [show (m.access r).read Val f = fun i => X (r.emb i) from by rw [← hf]; rfl]
  iapply Hk
  iexists f
  isplitr; · ipureintro; exact hf
  iexact H

/-- A store at a rectangle held by itself leaves what is stored. -/
theorem wp_store_win {m : Memref sig c.2.kind cs s e} {r : Rect s} {hr : ∀ a, r.stride a = 1} {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (f := f) (S := (m.slice r hr).view.set) (Finset.Subset.refl _)) $$ H
  iintro H
  iapply Hk
  iexists ((m.access r).write Val f w Finset.univ)
  isplitr; · ipureintro; exact View.read_write_univ _ _
  iexact H

/-- A store at a rectangle held through a squeeze leaves what is stored, re-indexed. -/
theorem wp_store_sq {m : Memref sig c.2.kind cs s e} {r : Rect s} {hr : ∀ a, r.stride a = 1} {w : r.shape.Idx → Val e}
    {s' : Shape} {hq : r.shape.Squeezes s'}
    {hx : (m.access r).Stores Finset.univ} {hm : Finset.univ = Finset.univ ∨ ∀ a, r.stride a = 1}
    {k : PUnit → Prog (TpuEff nD τ sig Val Λ c.2) α} {X : s'.Idx → Val e} :
    (owns c ((m.slice r hr).squeeze s' hq) fullShare X : sProp 𝕄)
      ⊢ iprop((owns c ((m.slice r hr).squeeze s' hq) fullShare (fun y => w (Shape.reshapeEquiv hq.numel_eq y)) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (f := f) (S := ((m.slice r hr).squeeze s' hq).view.set)
    (by intro x hx; exact (View.set_reshape (v := m.view.slice r) (s' := s') hq.numel_eq).symm ▸ hx)) $$ H
  iintro H
  iapply Hk
  iexists ((m.access r).write Val f w Finset.univ)
  isplitr
  · ipureintro; funext y
    show (m.access r).read Val ((m.access r).write Val f w Finset.univ) (Shape.reshapeEquiv hq.numel_eq y) = _
    rw [View.read_write_univ]
  iexact H

end

end Cert.RingProof
-- ==== Proof.Protocol.lean ====
/-
# The protocol of the ring

Forty-eight transfers leave every device: three hops of the reduction and three of the gathering, in both directions of
the ring, each in four segments. Every transfer has a semaphore at its sender and one at its receiver. Before the first
transfer every device tells both neighbours, on the barrier semaphore, that its landing windows are free.
This module fixes what every semaphore hands over, what a device owes at each moment, and the order of the waits.
-/
module

public import proofs.«01_k».proof.Proof.Values
public import proofs.«01_k».proof.Proof.Window
public import proofs.«01_k».proof.Proof.Gen.KernelIdeal
public import proofs.«01_k».proof.Proof.Gen.KernelIdeal.Launch
public import Idealize.ShloMosaic.Lib.Pipeline.Launch

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Transfers and semaphores -/

/-- A transfer: reduction or gathering, hop, direction, segment. -/
abbrev Tr : Type := Fin 2 × Fin 3 × Fin 2 × Fin 4

/-- The number of a transfer's semaphores. -/
abbrev ix (x : Tr) : Fin 48 := semIx x.1 x.2.1 x.2.2.1 x.2.2.2
/-- The place of a transfer in the order a device issues them. -/
def ord (x : Tr) : ℕ := 24 * x.1.val + 8 * x.2.1.val + 4 * x.2.2.1.val + x.2.2.2.val

/-- The transfer whose semaphores have number `n`. -/
def trOf (n : ℕ) : Tr :=
  (⟨n / 24 % 2, Nat.mod_lt _ (by decide)⟩, ⟨n % 12 / 4 % 3, Nat.mod_lt _ (by decide)⟩, ⟨n / 12 % 2, Nat.mod_lt _ (by decide)⟩, ⟨n % 4, Nat.mod_lt _ (by decide)⟩)

theorem trOf_ix : ∀ x : Tr, trOf (ix x).val = x := by decide +kernel
theorem ix_trOf : ∀ k : Fin 48, ix (trOf k.val) = k := by decide +kernel
theorem ord_inj : ∀ x y : Tr, ord x = ord y → x = y := by decide +kernel
theorem ord_lt (x : Tr) : ord x < 48 := by
  have := x.1.isLt; have := x.2.1.isLt; have := x.2.2.1.isLt; have := x.2.2.2.isLt; unfold ord; omega

theorem sendS_val : ∀ k : Fin 48, (sendS k).val = 3 + k.val := by decide +kernel
theorem recvS_val : ∀ k : Fin 48, (recvS k).val = 51 + k.val := by decide +kernel

abbrev barCell (c : Dev nD) : GSem nD τ sig := ((c : Thread nD τ), .reg barS)
abbrev sendCell (c : Dev nD) (x : Tr) : GSem nD τ sig := ((c : Thread nD τ), .dma (sendS (ix x)))
abbrev recvCell (c : Dev nD) (x : Tr) : GSem nD τ sig := ((c : Thread nD τ), .dma (recvS (ix x)))

/-- A device's semaphores of the ring: the barrier, and for every transfer the sending and the receiving one. -/
abbrev CI : Type := Option (Bool × Tr)
/-- The semaphore of an index. -/
def csem : CI → SemLoc sig
  | none => .reg barS
  | some (false, x) => .dma (sendS (ix x))
  | some (true, x) => .dma (recvS (ix x))
abbrev kcell (k : Dev nD × CI) : GSem nD τ sig := ((k.1 : Thread nD τ), csem k.2)

/-- The credit of one transfer. -/
def N : ℕ := (gS 0 0 0).view.dmaCredit
theorem N_pos : 0 < N := View.dmaCredit_pos _ (by decide)

/-! ## The windows of a transfer -/

/-- Where a transfer reads, on its sender. -/
abbrev srcM (c : Dev nD) (p : Fin 2) (h : Fin 3) (d : Fin 2) (s : Fin 4) : Memref sig .tc .vmem S128x1024 .bf16 :=
  match p with
  | 0 => sW d s
  | 1 => gS (lnCh c d h.val) d s
/-- The share of its window a transfer takes: of the gathering half, for the sender reads its rows meanwhile. -/
abbrev srcQ (p : Fin 2) : PosShare TreeShare :=
  match p with
  | 0 => fullShare
  | 1 => fullShare.left
/-- Where a transfer lands, on its receiver `e`. -/
abbrev landM (e : Dev nD) (p : Fin 2) (h : Fin 3) (d : Fin 2) (s : Fin 4) : Memref sig .tc .vmem S128x1024 .bf16 :=
  match p with
  | 0 => vW d h s
  | 1 => gS (inCh e d h.val) d s

theorem landM_credit (e : Dev nD) (p : Fin 2) (h : Fin 3) (d : Fin 2) (s : Fin 4) : (landM e p h d s).view.dmaCredit = N :=
  match p with
  | 0 => rfl
  | 1 => rfl
theorem srcM_credit (c : Dev nD) (p : Fin 2) (h : Fin 3) (d : Fin 2) (s : Fin 4) : (srcM c p h d s).view.dmaCredit = N :=
  match p with
  | 0 => rfl
  | 1 => rfl

/-! ## Families over the lanes -/

/-- One assertion for each of the four segments. -/
def lane4 (Φ : Fin 4 → sProp 𝕄) : sProp 𝕄 := iprop(Φ 0 ∗ Φ 1 ∗ Φ 2 ∗ Φ 3)
/-- One for each direction and segment. -/
def lane8 (Φ : Fin 2 → Fin 4 → sProp 𝕄) : sProp 𝕄 := iprop(lane4 (Φ 0) ∗ lane4 (Φ 1))
/-- One for each hop, of the reduction and of the gathering. -/
def hops (Φ : Fin 2 → Fin 3 → sProp 𝕄) : sProp 𝕄 := iprop((Φ 0 0 ∗ Φ 0 1 ∗ Φ 0 2) ∗ (Φ 1 0 ∗ Φ 1 1 ∗ Φ 1 2))

instance lane4_storable (Φ : Fin 4 → sProp 𝕄) [∀ s, BI.Storable (upEmb : UEmb _ 𝕄) (Φ s)] : BI.Storable (upEmb : UEmb _ 𝕄) (lane4 Φ) := by
  unfold lane4; infer_instance
instance hops_storable (Φ : Fin 2 → Fin 3 → sProp 𝕄) [∀ p h, BI.Storable (upEmb : UEmb _ 𝕄) (Φ p h)] : BI.Storable (upEmb : UEmb _ 𝕄) (hops Φ) := by
  unfold hops; infer_instance

/-! ## What the semaphores hand over -/

section Sched

variable (T : Dev nD → FVec F S4096x1024 .f32) (W : Dev nD → FVec F S1024x1024 .f32)

/-- A memref held whole, whatever it holds. -/
def ownsAny (c : Dev nD) {sh : Shape} {e : EltTy} (m : Memref sig .tc .vmem sh e) : sProp 𝕄 :=
  iprop(∃ X, owns (c : Thread nD τ) m fullShare X)
instance ownsAny_storable (c : Dev nD) {sh : Shape} {e : EltTy} (m : Memref sig .tc .vmem sh e) :
    BI.Storable (upEmb : UEmb _ 𝕄) (ownsAny (F := F) c m) := by unfold ownsAny; infer_instance

/-- What the neighbour of direction `d` hands `c` at the barrier: its windows that `c`'s transfers land in. -/
def barPay (c : Dev nD) (d : Fin 2) : sProp 𝕄 := hops fun p h => lane4 fun s => ownsAny (nb d c) (landM (nb d c) p h d s)
/-- What a departure hands its sender: the window it was read from. -/
def sendPay (c : Dev nD) (x : Tr) : sProp 𝕄 :=
  owns (c : Thread nD τ) (srcM c x.1 x.2.1 x.2.2.1 x.2.2.2) (srcQ x.1) (xval T W c x.1 x.2.1 x.2.2.1 x.2.2.2)
/-- What an arrival hands its receiver: the window it landed in, holding what the sender sent. -/
def recvPay (c : Dev nD) (x : Tr) : sProp 𝕄 :=
  owns (c : Thread nD τ) (landM c x.1 x.2.1 x.2.2.1 x.2.2.2) fullShare (xval T W (bk x.2.2.1 c) x.1 x.2.1 x.2.2.1 x.2.2.2)

/-- One round: a barrier cell has one duty of one unit for each neighbour, a transfer's cell one duty of the transfer's
    credit. -/
def ringRd : Rounds.Schedule (GSem nD τ sig) (Fin 2) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma q => if q.val < 51 then sendPay T W g.1.1 (trOf (q.val - 3)) else recvPay T W g.1.1 (trOf (q.val - 51))
  amount_pos g _ _ _ := by
    match g.2 with
    | .reg _ => exact Nat.one_pos
    | .dma _ => exact N_pos

instance ringRd_payload_storable (g : GSem nD τ sig) (r : ℕ) (d : Fin 2) :
    BI.Storable (upEmb : UEmb _ 𝕄) ((ringRd (F := F) T W).payload g r d) := by
  obtain ⟨t, sm⟩ := g
  match sm with
  | .reg _ => show BI.Storable _ (barPay t.1 d); unfold barPay; infer_instance
  | .dma q =>
    show BI.Storable _ (if q.val < 51 then sendPay T W t.1 (trOf (q.val - 3)) else recvPay T W t.1 (trOf (q.val - 51)))
    unfold sendPay recvPay
    split <;> infer_instance

variable (c : Dev nD) (x : Tr)

theorem duties_bar : (ringRd (F := F) T W).duties (barCell c) 0 = Finset.univ := by
  dsimp only [ringRd]; exact if_pos ⟨rfl, rfl⟩
theorem duties_dma (q : DmaSem sig) : (ringRd (F := F) T W).duties ((c : Thread nD τ), .dma q) 0 = {0} := by
  dsimp only [ringRd]; exact if_pos ⟨rfl, rfl⟩
theorem duties_later (g : GSem nD τ sig) : ∀ r, 1 ≤ r → (ringRd (F := F) T W).duties g r = ∅ :=
  fun r hr => by dsimp only [ringRd]; exact if_neg fun h => by have := h.1; omega

theorem amount_bar (d : Fin 2) : (ringRd (F := F) T W).amount (barCell c) 0 d = 1 := rfl
theorem amount_dma (q : DmaSem sig) (d : Fin 2) : (ringRd (F := F) T W).amount ((c : Thread nD τ), .dma q) 0 d = N := rfl

theorem expect_bar : (ringRd (F := F) T W).expect (barCell c) 0 = 2 := by
  unfold Schedule.expect Schedule.amountOf
  rw [duties_bar, Finset.sum_congr rfl fun d _ => amount_bar T W c d, Finset.sum_const, Finset.card_univ, Fintype.card_fin, smul_eq_mul]
theorem expect_dma (q : DmaSem sig) : (ringRd (F := F) T W).expect ((c : Thread nD τ), .dma q) 0 = N := by
  unfold Schedule.expect Schedule.amountOf; rw [duties_dma, Finset.sum_singleton, amount_dma]

theorem payload_send (d : Fin 2) : (ringRd (F := F) T W).payload (sendCell c x) 0 d = sendPay T W c x := by
  show (if (sendS (ix x)).val < 51 then sendPay T W c (trOf ((sendS (ix x)).val - 3)) else recvPay T W c (trOf ((sendS (ix x)).val - 51))) = _
  have h := sendS_val (ix x); have := (ix x).isLt
  rw [if_pos (by omega), h, Nat.add_sub_cancel_left, trOf_ix]
theorem payload_recv (d : Fin 2) : (ringRd (F := F) T W).payload (recvCell c x) 0 d = recvPay T W c x := by
  show (if (recvS (ix x)).val < 51 then sendPay T W c (trOf ((recvS (ix x)).val - 3)) else recvPay T W c (trOf ((recvS (ix x)).val - 51))) = _
  have h := recvS_val (ix x)
  rw [if_neg (by omega), h, Nat.add_sub_cancel_left, trOf_ix]
theorem payload_bar (d : Fin 2) : (ringRd (F := F) T W).payload (barCell c) 0 d = barPay c d := rfl

theorem rest_bar : bigSep ((ringRd (F := F) T W).duties (barCell c) 0 \ ∅) (fun d => (ringRd (F := F) T W).payload (barCell c) 0 d)
    = iprop(barPay c 0 ∗ barPay c 1) := by
  rw [Finset.sdiff_empty, duties_bar, BI.bigSep_fin_two]; rfl
theorem rest_send : bigSep ((ringRd (F := F) T W).duties (sendCell c x) 0 \ ∅) (fun d => (ringRd (F := F) T W).payload (sendCell c x) 0 d)
    = sendPay T W c x := by
  rw [Finset.sdiff_empty, duties_dma, bigSep_singleton, payload_send]
theorem rest_recv : bigSep ((ringRd (F := F) T W).duties (recvCell c x) 0 \ ∅) (fun d => (ringRd (F := F) T W).payload (recvCell c x) 0 d)
    = recvPay T W c x := by
  rw [Finset.sdiff_empty, duties_dma, bigSep_singleton, payload_recv]

/-! ## The cells' records -/

/-- Every cell's invariant, and that every cell has reached its first round. -/
def records (K : Dev nD × CI → ℕ) : sProp 𝕄 :=
  bigSep Finset.univ fun k : Dev nD × CI => iprop(cellInv ER (ringRd T W) (K k) (kcell k) ∗ reached ER (kcell k) 0)

instance records_persistent (K : Dev nD × CI → ℕ) : BI.Persistent (records (F := F) T W K) := by unfold records; infer_instance

/-- One cell's record. -/
theorem records_get (K : Dev nD × CI → ℕ) (k : Dev nD × CI) :
    records (F := F) T W K ⊢ iprop(cellInv ER (ringRd T W) (K k) (kcell k) ∗ reached ER (kcell k) 0) :=
  by classical exact bigSep_elim (Finset.mem_univ k)

end Sched

/-! ## What a device owes; the order of the waits -/

/-- What a device still owes once it has issued its first `n` transfers: the credits of the others at their receivers. -/
@[irreducible] def owe (n : ℕ) (c : Dev nD) : CellTallies nD τ sig Unit :=
  ∑ x : Tr, if n ≤ ord x then tallyAt (recvCell (nb x.2.2.1 c) x) () N else 0

theorem owe_peel (c : Dev nD) (x : Tr) : owe (ord x) c = owe (ord x + 1) c + tallyAt (recvCell (nb x.2.2.1 c) x) () N := by
  unfold owe
  rw [← Finset.add_sum_erase Finset.univ _ (Finset.mem_univ x), ← Finset.add_sum_erase Finset.univ (fun y : Tr => if ord x + 1 ≤ ord y then _ else _) (Finset.mem_univ x),
    if_pos le_rfl, if_neg (by omega), zero_add, add_comm]
  congr 1
  refine Finset.sum_congr rfl fun y hy => ?_
  have hne : ord x ≠ ord y := fun h => (Finset.ne_of_mem_erase hy) (ord_inj y x h.symm)
  by_cases h : ord x ≤ ord y
  · rw [if_pos h, if_pos (by omega)]
  · rw [if_neg h, if_neg (by omega)]

theorem owe_end (c : Dev nD) : owe 48 c = 0 := by
  unfold owe
  exact Finset.sum_eq_zero fun x _ => if_neg (by have := ord_lt x; omega)

theorem owe_pos {n : ℕ} {c : Dev nD} {g : GSem nD τ sig} {u : Unit} (h : 0 < owe n c g u) :
    ∃ x : Tr, n ≤ ord x ∧ g = recvCell (nb x.2.2.1 c) x := by
  by_contra hn
  refine Nat.lt_irrefl 0 (h.trans_eq ?_)
  unfold owe
  rw [Finset.sum_apply, Finsupp.finset_sum_apply]
  refine Finset.sum_eq_zero fun x _ => ?_
  by_cases hx : n ≤ ord x
  · rw [if_pos hx, tallyAt_apply]
    exact if_neg fun h' => hn ⟨x, hx, h'.1⟩
  · rw [if_neg hx]; rfl

/-- What a device owes at launch: the transfers, and a unit at each neighbour's barrier. -/
def owe₁ (c : Dev nD) : CellTallies nD τ sig Unit := owe 0 c + tallyAt (barCell (nb 0 c)) () 1
def owe₀ (c : Dev nD) : CellTallies nD τ sig Unit := owe₁ c + tallyAt (barCell (nb 1 c)) () 1

def L (g : GSem nD τ sig) : Finset Unit := if g.1.2 = .tc then {()} else ∅
/-- The order: the barrier first, then the arrivals hop by hop; departures and staging below all of them. -/
def lv (g : GSem nD τ sig) (_ : Unit) : ℕ :=
  match g.2 with
  | .reg _ => 1
  | .dma q => if q.val < 51 then 0 else 2 + 3 * (trOf (q.val - 51)).1.val + (trOf (q.val - 51)).2.1.val

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (x : Tr) : lv (recvCell c x) () = 2 + 3 * x.1.val + x.2.1.val := by
  have h := recvS_val (ix x)
  show (if (recvS (ix x)).val < 51 then 0 else 2 + 3 * (trOf ((recvS (ix x)).val - 51)).1.val + (trOf ((recvS (ix x)).val - 51)).2.1.val) = _
  rw [if_neg (by omega), h, Nat.add_sub_cancel_left, trOf_ix]

/-- A device may wait at a cell of level at most `k` when all it owes lies above. -/
theorem mayWait_of (c : Dev nD) (sm : SemLoc sig) (O : CellTallies nD τ sig Unit) (k : ℕ) (hk : lv ((c : Thread nD τ), sm) () ≤ k)
    (hO : ∀ g u, 0 < O g u → g.1.2 = .tc ∧ k < lv g u) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

/-- A wait at a semaphore that no transfer arrives at, while transfers are owed. -/
theorem mayWait_low (c : Dev nD) (q : DmaSem sig) (hq : q.val < 51) (n : ℕ) :
    (levAts L lv : sProp 𝕄) ⊢ MayWait (c : Thread nD τ) (.dma q) () (owe n c) :=
  mayWait_of c _ _ 0 (le_of_eq (if_pos hq)) fun g u hg => by
    obtain ⟨x, _, rfl⟩ := owe_pos hg
    exact ⟨rfl, by rw [lv_recv]; omega⟩

/-- The wait at the barrier, while transfers are owed. -/
theorem mayWait_bar (c : Dev nD) (n : ℕ) : (levAts L lv : sProp 𝕄) ⊢ MayWait (c : Thread nD τ) (.reg barS) () (owe n c) :=
  mayWait_of c _ _ 1 le_rfl fun g u hg => by
    obtain ⟨x, _, rfl⟩ := owe_pos hg
    exact ⟨rfl, by rw [lv_recv]; omega⟩

/-- A wait for an arrival, once all transfers of its hop have been issued. -/
theorem mayWait_recv (c : Dev nD) (x : Tr) (n : ℕ) (hn : 24 * x.1.val + 8 * x.2.1.val + 8 ≤ n) :
    (levAts L lv : sProp 𝕄) ⊢ MayWait (c : Thread nD τ) (.dma (recvS (ix x))) () (owe n c) :=
  mayWait_of c _ _ (2 + 3 * x.1.val + x.2.1.val) (le_of_eq (lv_recv c x)) fun g u hg => by
    obtain ⟨y, hy, rfl⟩ := owe_pos hg
    refine ⟨rfl, ?_⟩
    rw [lv_recv]
    unfold ord at hy
    have := y.2.2.1.isLt; have := y.2.2.2.isLt
    omega

theorem owe₀_pos {c : Dev nD} {g : GSem nD τ sig} {u : Unit} (h : 0 < owe₀ c g u) :
    g = barCell (nb 1 c) ∨ g = barCell (nb 0 c) ∨ 0 < owe 0 c g u := by
  by_contra hn
  rw [not_or, not_or] at hn
  refine hn.2.2 ?_
  unfold owe₀ owe₁ at h
  generalize owe 0 c = O at h ⊢
  rw [Pi.add_apply, Finsupp.add_apply, Pi.add_apply, Finsupp.add_apply, tallyAt_apply, tallyAt_apply,
    if_neg fun h' => hn.2.1 h'.1, if_neg fun h' => hn.1 h'.1] at h
  exact h

/-- A wait of the pipeline at a staging semaphore, before the body. -/
theorem mayWait_stage (c : Dev nD) (q : DmaSem sig) (hq : q.val < 51) :
    (levAts L lv : sProp 𝕄) ⊢ MayWait (c : Thread nD τ) (.dma q) () (owe₀ c) :=
  mayWait_of c _ _ 0 (le_of_eq (if_pos hq)) fun g u hg => by
    rcases owe₀_pos hg with rfl | rfl | h
    · exact ⟨rfl, Nat.one_pos⟩
    · exact ⟨rfl, Nat.one_pos⟩
    · obtain ⟨x, _, rfl⟩ := owe_pos h
      exact ⟨rfl, by rw [lv_recv]; omega⟩

end Cert.RingProof
-- ==== Proof.Steps.lean ====
/-
# One step of the body

The rules for a transfer, for the wait for its departure and for the wait for its arrival, at any transfer; the rule for
a step repeated over the lanes.
-/
module

public import proofs.«01_k».proof.Proof.Protocol

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕂" => Prog (TpuEff nD τ sig (Elt F) Λ₀ Proc.tc) PUnit

abbrev 𝒱₀ : Variants := Variants.none

/-- Device `c` runs `k` to `Q`. -/
abbrev wpK (c : Dev nD) (k : Prog (TpuEff nD τ sig (Elt F) Λ₀ Proc.tc) PUnit) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ k Q

/-! ## Families over the lanes -/

theorem lane4_sep (A B : Fin 4 → sProp 𝕄) : lane4 (fun s => iprop(A s ∗ B s)) = iprop(lane4 A ∗ lane4 B) := by
  refine Entails.antisymm (show iprop((A 0 ∗ B 0) ∗ (A 1 ∗ B 1) ∗ (A 2 ∗ B 2) ∗ (A 3 ∗ B 3)) ⊢ iprop((A 0 ∗ A 1 ∗ A 2 ∗ A 3) ∗ B 0 ∗ B 1 ∗ B 2 ∗ B 3) from ?_)
    (show iprop((A 0 ∗ A 1 ∗ A 2 ∗ A 3) ∗ B 0 ∗ B 1 ∗ B 2 ∗ B 3) ⊢ iprop((A 0 ∗ B 0) ∗ (A 1 ∗ B 1) ∗ (A 2 ∗ B 2) ∗ (A 3 ∗ B 3)) from ?_)
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  · iintro ⟨⟨A0, A1, A2, A3⟩, ⟨B0, B1, B2, B3⟩⟩
    isplitl [A0 B0]; · isplitl [A0] <;> iassumption
    isplitl [A1 B1]; · isplitl [A1] <;> iassumption
    isplitl [A2 B2]; · isplitl [A2] <;> iassumption
    isplitl [A3] <;> iassumption

theorem lane8_sep (A B : Fin 2 → Fin 4 → sProp 𝕄) : lane8 (fun d s => iprop(A d s ∗ B d s)) = iprop(lane8 A ∗ lane8 B) := by
  unfold lane8
  rw [lane4_sep, lane4_sep]
  refine Entails.antisymm (show iprop((lane4 (A 0) ∗ lane4 (B 0)) ∗ lane4 (A 1) ∗ lane4 (B 1)) ⊢ iprop((lane4 (A 0) ∗ lane4 (A 1)) ∗ lane4 (B 0) ∗ lane4 (B 1)) from ?_)
    (show iprop((lane4 (A 0) ∗ lane4 (A 1)) ∗ lane4 (B 0) ∗ lane4 (B 1)) ⊢ iprop((lane4 (A 0) ∗ lane4 (B 0)) ∗ lane4 (A 1) ∗ lane4 (B 1)) from ?_)
  · iintro ⟨⟨A0, B0⟩, ⟨A1, B1⟩⟩
    isplitl [A0 A1]
    · isplitl [A0] <;> iassumption
    · isplitl [B0] <;> iassumption
  · iintro ⟨⟨A0, A1⟩, ⟨B0, B1⟩⟩
    isplitl [A0 B0]
    · isplitl [A0] <;> iassumption
    · isplitl [A1] <;> iassumption

section Loops

variable (c : Dev nD) (Q : PUnit → sProp (MT nD τ sig Unit (Elt F) ℕ UU ℕ))

/-- A step repeated over the four segments: what each needs and leaves, and a part shared by all that counts them. -/
theorem four_rule {st : Fin 4 → 𝕂 → 𝕂} {Pre Post : Fin 4 → sProp (MT nD τ sig Unit (Elt F) ℕ UU ℕ)} {Sh : ℕ → sProp (MT nD τ sig Unit (Elt F) ℕ UU ℕ)} (n : ℕ)
    (h : ∀ (s : Fin 4) (k : 𝕂), iprop(Pre s ∗ Sh (n + s.val)) ⊢ iprop(((Post s ∗ Sh (n + s.val + 1)) -∗ wpK c k Q) -∗ wpK c (st s k) Q)) (k : 𝕂) :
    iprop(lane4 Pre ∗ Sh n) ⊢ iprop(((lane4 Post ∗ Sh (n + 4)) -∗ wpK c k Q) -∗ wpK c (four st k) Q) := by
  unfold lane4 four
  iintro ⟨⟨P0, P1, P2, P3⟩, S⟩ Hk
  iapply (h 0 _) $$ [P0 S]
  · isplitl [P0] <;> iassumption
  iintro ⟨P0, S⟩
  iapply (h 1 _) $$ [P1 S]
  · isplitl [P1] <;> iassumption
  iintro ⟨P1, S⟩
  iapply (h 2 _) $$ [P2 S]
  · isplitl [P2] <;> iassumption
  iintro ⟨P2, S⟩
  iapply (h 3 _) $$ [P3 S]
  · isplitl [P3] <;> iassumption
  iintro ⟨P3, S⟩
  iapply Hk
  isplitr [S]
  · isplitl [P0]; · iexact P0
    isplitl [P1]; · iexact P1
    isplitl [P2] <;> iassumption
  · iexact S

/-- A step repeated over both directions and the four segments. -/
theorem lanes_rule {st : Fin 2 → Fin 4 → 𝕂 → 𝕂} {Pre Post : Fin 2 → Fin 4 → sProp (MT nD τ sig Unit (Elt F) ℕ UU ℕ)} {Sh : ℕ → sProp (MT nD τ sig Unit (Elt F) ℕ UU ℕ)} (n : ℕ)
    (h : ∀ (d : Fin 2) (s : Fin 4) (k : 𝕂), iprop(Pre d s ∗ Sh (n + 4 * d.val + s.val))
      ⊢ iprop(((Post d s ∗ Sh (n + 4 * d.val + s.val + 1)) -∗ wpK c k Q) -∗ wpK c (st d s k) Q)) (k : 𝕂) :
    iprop(lane8 Pre ∗ Sh n) ⊢ iprop(((lane8 Post ∗ Sh (n + 8)) -∗ wpK c k Q) -∗ wpK c (lanes st k) Q) := by
  unfold lane8 lanes
  iintro ⟨⟨P0, P1⟩, S⟩ Hk
  iapply (four_rule c Q n (h 0) _) $$ [P0 S]
  · isplitl [P0] <;> iassumption
  iintro ⟨P0, S⟩
  iapply (four_rule c Q (n + 4) (h 1) _) $$ [P1 S]
  · isplitl [P1] <;> iassumption
  iintro ⟨P1, S⟩
  iapply Hk
  isplitr [S]
  · isplitl [P0] <;> iassumption
  · iexact S

end Loops

/-! ## A transfer and its waits -/

section Transfers

variable (T : Dev nD → FVec F S4096x1024 .f32) (W : Dev nD → FVec F S1024x1024 .f32)
variable (K : Dev nD × CI → ℕ) (c : Dev nD)

/-- What a device holds of a transfer it has not issued. -/
def unsent (x : Tr) : sProp 𝕄 :=
  iprop(atPos ER (sendCell c x) 0 ∅ 0 ∗ dutyTok ER (sendCell c x) 0 0 ∗ dutyTok ER (recvCell (nb x.2.2.1 c) x) 0 0)
/-- Of one it has issued, before its departure. -/
def sent (x : Tr) : sProp 𝕄 := iprop(atPos ER (sendCell c x) 0 ∅ 0 ∗ cred (tallyAt (sendCell c x) () N))
/-- Of one that is to arrive. -/
def coming (x : Tr) : sProp 𝕄 := iprop(atPos ER (recvCell c x) 0 ∅ 0 ∗ cred (tallyAt (recvCell c x) () N))
/-- The neighbour's window a transfer lands in. -/
def landing (x : Tr) : sProp 𝕄 := ownsAny (nb x.2.2.1 c) (landM (nb x.2.2.1 c) x.1 x.2.1 x.2.2.1 x.2.2.2)
/-- The counter of a sending semaphore, at rest. -/
def sendZ (x : Tr) : sProp 𝕄 := semVal (sendCell c x) 0
/-- The counter of a receiving semaphore, at rest. -/
def recvZ (x : Tr) : sProp 𝕄 := semVal (recvCell c x) 0

/-- What all steps share: the cells' records, the order of the waits, the device's own rows, and what it still owes. -/
def shared (n : ℕ) : sProp 𝕄 :=
  iprop(records T W K ∗ levAts L lv ∗ owns (c : Thread nD τ) tM fullShare (T c) ∗ ∃ Ws, owes (c : Thread nD τ) (owe n c) Ws)

variable {Q : PUnit → sProp (MT nD τ sig Unit (Elt F) ℕ UU ℕ)}

theorem owns_of_pointsTo {m : Memref sig .tc .vmem S128x1024 .bf16} {q : PosShare TreeShare} {f : Buf (Elt F) (m.view.loc (c : Thread nD τ))}
    {X : FVec F S128x1024 .bf16} (h : m.view.read (Elt F) f = X) :
    (m.view.loc (c : Thread nD τ) ↦[m.view.set]{q} f : sProp 𝕄) ⊢ owns (c : Thread nD τ) m q X := by
  unfold owns
  iintro H; iexists f
  isplitr; · ipureintro; exact h
  iexact H

theorem sendPay_eq (p : Fin 2) (h : Fin 3) (d : Fin 2) (s : Fin 4) :
    sendPay T W c (p, h, d, s) = owns (c : Thread nD τ) (srcM c p h d s) (srcQ p) (xval T W c p h d s) := rfl
theorem recvPay_eq (p : Fin 2) (h : Fin 3) (d : Fin 2) (s : Fin 4) :
    recvPay T W c (p, h, d, s) = owns (c : Thread nD τ) (landM c p h d s) fullShare (xval T W (bk d c) p h d s) := rfl

/-- A window written over with what the sender read is what the arrival hands over. -/
theorem landed_pay (p : Fin 2) (h : Fin 3) (d : Fin 2) (s : Fin 4) (fd : Buf (Elt F) ((landM (nb d c) p h d s).view.loc (nb d c : Thread nD τ)))
    {X : FVec F S128x1024 .bf16} (hX : X = xval T W c p h d s) :
    ((landM (nb d c) p h d s).view.loc (nb d c : Thread nD τ) ↦[(landM (nb d c) p h d s).view.set]{fullShare}
        ((landM (nb d c) p h d s).view.write (Elt F) fd X Finset.univ) : sProp 𝕄)
      ⊢ (ringRd T W).payload (recvCell (nb d c) (p, h, d, s)) 0 0 := by
  rw [payload_recv, recvPay_eq, bk_nb, ← hX]
  exact owns_of_pointsTo (nb d c) (View.read_write_univ ..)

/-- Issuing a transfer: the window read from and the neighbour's landing window go in. -/
theorem wp_sendX (p : Fin 2) (h : Fin 3) (d : Fin 2) (s : Fin 4) (n : ℕ) (hn : ord (p, h, d, s) = n) (e : Dev nD) (he : e = nb d c)
    (src dst : Memref sig .tc .vmem S128x1024 .bf16) (hs : src = srcM c p h d s) (hd : dst = landM (nb d c) p h d s)
    {hsc : (dst : Memref sig (Dev.tc e : Thread nD τ).2.kind .vmem S128x1024 .bf16).view.ref.isScScratch = false} {hsrc : src.view.WordExact} {hdst : dst.view.WordExact}
    {hsem : DmaTarget.Typed .vmem (.dma (recvS (semIx p h d s))) (.remote (Dev.tc e : Thread nD τ) dst (.dma (sendS (semIx p h d s))) hsc)} (k : 𝕂) :
    iprop(owns (c : Thread nD τ) (srcM c p h d s) (srcQ p) (xval T W c p h d s) ∗ unsent c (p, h, d, s) ∗ landing c (p, h, d, s) ∗ shared T W K c n)
      ⊢ iprop(((sent c (p, h, d, s) ∗ shared T W K c (n + 1)) -∗ wpK c k Q)
        -∗ wpK c (.op (.enqueueDma src (.remote (Dev.tc e : Thread nD τ) dst (.dma (sendS (semIx p h d s))) hsc) (.dma (recvS (semIx p h d s))) hsrc hdst hsem) fun _ => k) Q) := by
  subst hn he hs hd
  unfold unsent landing shared sent ownsAny
  iintro ⟨Hsrc, ⟨Hat, HtS, HtR⟩, ⟨%X, Hdst⟩, #HR, #HL, HT, ⟨%Ws, HO⟩⟩ Hk
  ihave HrS := (records_get T W K (c, some (false, (p, h, d, s)))) $$ HR
  ihave HrR := (records_get T W K (nb d c, some (true, (p, h, d, s)))) $$ HR
  icases HrS with ⟨#HiS, #HrS⟩
  icases HrR with ⟨#HiR, #HrR⟩
  unfold owns
  icases Hsrc with ⟨%fs, %hfs, Hsrc⟩
  icases Hdst with ⟨%fd, %hfd, Hdst⟩
  iapply (Rounds.wp_send_pointsTo 𝒱₀ ER (ringRd T W) (c : Thread nD τ) none (κ₁ := K (c, some (false, (p, h, d, s)))) (κ₂ := K (nb d c, some (true, (p, h, d, s))))
    (r₁ := 0) (r₂ := 0) (d₁ := 0) (d₂ := 0)
    (by rw [duties_dma]; exact Finset.mem_singleton_self _) (by rw [duties_dma]; exact Finset.mem_singleton_self _)
    () () N (by exact landM_credit (nb d c) p h d s) (amount_dma T W c _ 0) (amount_dma T W (nb d c) _ 0) (owe (ord (p, h, d, s) + 1) c) (owe_peel c (p, h, d, s)) (W := Ws)
    ((owns_of_pointsTo c hfs).trans (Entails.of_eq (payload_send T W c (p, h, d, s) 0).symm))
    (landed_pay T W c p h d s fd hfs))
    $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hat Hc]
  · isplitl [Hat] <;> iassumption
  isplitr; · iexact HR
  isplitr; · iexact HL
  isplitl [HT]; · iexact HT
  iexists _; iexact HO

/-- Waiting for a departure: the window read from comes back. -/
theorem wp_departX (p : Fin 2) (h : Fin 3) (d : Fin 2) (s : Fin 4) (n : ℕ)
    (a b : Memref sig .tc .vmem S128x1024 .bf16) (hN : b.view.dmaCredit = N) {ha : a.view.WordExact} {hb : b.view.WordExact} (k : 𝕂) :
    iprop(sent c (p, h, d, s) ∗ shared T W K c n)
      ⊢ iprop(((owns (c : Thread nD τ) (srcM c p h d s) (srcQ p) (xval T W c p h d s) ∗ sendZ c (p, h, d, s) ∗ shared T W K c n) -∗ wpK c k Q)
        -∗ wpK c (.op (.waitDma2 (sendS (semIx p h d s)) a b ha hb) fun _ => k) Q) := by
  unfold sent shared sendZ
  iintro ⟨⟨Hat, Hc⟩, #HR, #HL, HT, ⟨%Ws, HO⟩⟩ Hk
  ihave HrS := (records_get T W K (c, some (false, (p, h, d, s)))) $$ HR
  icases HrS with ⟨#HiS, #HrS⟩
  iapply (Rounds.wp_wait_rest_token 𝒱₀ ER (ringRd T W) (c : Thread nD τ) none (κ := K (c, some (false, (p, h, d, s))))
      (wpE_waitDma2_eq 𝒱₀ (c : Thread nD τ) none Set.univ) (Set.mem_univ _) () (O := owe n c) (W := Ws) (R := 0) (m := 0) (T := ∅)
      (by rw [Nat.zero_add, expect_dma]; exact hN)) $$ [Hc HO Hat]
  · isplitr; · iexact HiS
    isplitl [Hc]; · rw [hN]; iexact Hc
    isplitl [HO]; · iexact HO
    isplitr
    · iapply (mayWait_low c _ (by have := sendS_val (semIx p h d s); have := (semIx p h d s).isLt; omega) n); iexact HL
    iexact Hat
  iintro ⟨HO, Hat, -, Hpay⟩
  ihave Hp := (Entails.of_eq ((rest_send T W c (p, h, d, s)).trans (sendPay_eq T W c p h d s))) $$ Hpay
  imod (Rounds.cell_close ER (ringRd T W) (Set.mem_univ (K (c, some (false, (p, h, d, s))))) (fun h => h) (R := 0 + 1) (duties_later T W (sendCell c (p, h, d, s)))) $$ [Hat] with Hz
  · isplitr; · iexact HiS
    iexact Hat
  iapply Hk
  isplitl [Hp]; · iexact Hp
  isplitl [Hz]; · iexact Hz
  isplitr; · iexact HR
  isplitr; · iexact HL
  isplitl [HT]; · iexact HT
  iexists _; iexact HO

/-- Waiting for an arrival: the landing window comes, holding what the sender sent. -/
theorem wp_arriveX (p : Fin 2) (h : Fin 3) (d : Fin 2) (s : Fin 4) (n : ℕ) (hn : 24 * p.val + 8 * h.val + 8 ≤ n)
    (a b : Memref sig .tc .vmem S128x1024 .bf16) (hN : b.view.dmaCredit = N) {ha : a.view.WordExact} {hb : b.view.WordExact} (k : 𝕂) :
    iprop(coming c (p, h, d, s) ∗ shared T W K c n)
      ⊢ iprop(((owns (c : Thread nD τ) (landM c p h d s) fullShare (xval T W (bk d c) p h d s) ∗ recvZ c (p, h, d, s) ∗ shared T W K c n) -∗ wpK c k Q)
        -∗ wpK c (.op (.waitDma2 (recvS (semIx p h d s)) a b ha hb) fun _ => k) Q) := by
  unfold coming shared recvZ
  iintro ⟨⟨Hat, Hc⟩, #HR, #HL, HT, ⟨%Ws, HO⟩⟩ Hk
  ihave HrS := (records_get T W K (c, some (true, (p, h, d, s)))) $$ HR
  icases HrS with ⟨#HiS, #HrS⟩
  iapply (Rounds.wp_wait_rest_token 𝒱₀ ER (ringRd T W) (c : Thread nD τ) none (κ := K (c, some (true, (p, h, d, s))))
      (wpE_waitDma2_eq 𝒱₀ (c : Thread nD τ) none Set.univ) (Set.mem_univ _) () (O := owe n c) (W := Ws) (R := 0) (m := 0) (T := ∅)
      (by rw [Nat.zero_add, expect_dma]; exact hN)) $$ [Hc HO Hat]
  · isplitr; · iexact HiS
    isplitl [Hc]; · rw [hN]; iexact Hc
    isplitl [HO]; · iexact HO
    isplitr
    · iapply (mayWait_recv c (p, h, d, s) n hn); iexact HL
    iexact Hat
  iintro ⟨HO, Hat, -, Hpay⟩
  ihave Hp := (Entails.of_eq ((rest_recv T W c (p, h, d, s)).trans (recvPay_eq T W c p h d s))) $$ Hpay
  imod (Rounds.cell_close ER (ringRd T W) (Set.mem_univ (K (c, some (true, (p, h, d, s))))) (fun h => h) (R := 0 + 1) (duties_later T W (recvCell c (p, h, d, s)))) $$ [Hat] with Hz
  · isplitr; · iexact HiS
    iexact Hat
  iapply Hk
  isplitl [Hp]; · iexact Hp
  isplitl [Hz]; · iexact Hz
  isplitr; · iexact HR
  isplitr; · iexact HL
  isplitl [HT]; · iexact HT
  iexists _; iexact HO

end Transfers

end Cert.RingProof
-- ==== Proof.Phases.lean ====
/-
# The steps of the body, one lane at a time

What each step of the program needs and leaves for one direction and one segment, at any hop.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕂" => Prog (TpuEff nD τ sig (Elt F) Λ₀ Proc.tc) PUnit

variable (T : Dev nD → FVec F S4096x1024 .f32) (W : Dev nD → FVec F S1024x1024 .f32)
variable (K : Dev nD × CI → ℕ) (c : Dev nD) {Q : PUnit → sProp (MT nD τ sig Unit (Elt F) ℕ UU ℕ)}

/-- The device's own rows at an offset that is a block's are that block. -/
theorem rows_eq {o : Fin 2 → Nat} {ho} {j : Dev nD} {d : Fin 2} {s : Fin 4} (h : o = segOff j d s) (X : S4096x1024.Idx → F .f32) :
    (fun i => X ((rowsR o ho).emb i)) = seg X j d s := by subst h; rfl

/-! ## The reduction -/

/-- Filling a slot of the sending buffer. -/
theorem fill_step (d : Fin 2) (s : Fin 4) (n : ℕ) (k : 𝕂) :
    iprop(ownsAny c (sW d s) ∗ shared T W K c n)
      ⊢ iprop(((owns (c : Thread nD τ) (sW d s) fullShare (sv T d s 0 c) ∗ shared T W K c n) -∗ wpK c k Q) -∗ wpK c (fillStep c d s k) Q) := by
  unfold fillStep ownsAny shared
  iintro ⟨⟨%X, Hs⟩, #HR, #HL, HT, HO⟩ Hk
  iapply (wp_load_sub 𝒱₀ (c : Thread nD τ) none Set.univ (m := tM)) $$ HT
  iintro HT
  iapply (wp_load_sq 𝒱₀ (c : Thread nD τ) none Set.univ (m := sM) (r := sR d s) (hr := fun _ => rfl) (hq := squeezes_S1x1x128x1024_S128x1024)) $$ Hs
  iintro Hs
  iapply (wp_store_sq 𝒱₀ (c : Thread nD τ) none Set.univ (m := sM) (r := sR d s) (hr := fun _ => rfl) (hq := squeezes_S1x1x128x1024_S128x1024)) $$ Hs
  iintro Hs
  rw [pay1_apply _ squeezes_S1x1x128x1024_S128x1024, rows_eq (inOff_eq c d 0 s)]
  iapply Hk
  isplitl [Hs]; · iexact Hs
  isplitr; · iexact HR
  isplitr; · iexact HL
  isplitl [HT] <;> iassumption

/-- A hop of the reduction leaves. -/
theorem send_step (h : Fin 3) (d : Fin 2) (s : Fin 4) (k : 𝕂) :
    iprop((owns (c : Thread nD τ) (sW d s) fullShare (sv T d s h.val c) ∗ unsent c (0, h, d, s) ∗ landing c (0, h, d, s)) ∗ shared T W K c (8 * h.val + 4 * d.val + s.val))
      ⊢ iprop(((sent c (0, h, d, s) ∗ shared T W K c (8 * h.val + 4 * d.val + s.val + 1)) -∗ wpK c k Q) -∗ wpK c (sendStep c h d s k) Q) := by
  unfold sendStep
  iintro ⟨⟨Hs, Hu, Hl⟩, HS⟩ Hk
  iapply (wp_sendX T W K c 0 h d s (8 * h.val + 4 * d.val + s.val) (by unfold ord; simp) (nbP c d) (nbP_eq c d) (sW d s) (vW d h s) rfl rfl k) $$ [Hs Hu Hl HS]
  · isplitl [Hs]; · iexact Hs
    isplitl [Hu]; · iexact Hu
    isplitl [Hl] <;> iassumption
  iexact Hk

/-- Adding the device's own segment to the arrival. -/
theorem add_step (h h' : Fin 3) (hh : h'.val = h.val + 1) (d : Fin 2) (s : Fin 4) (n : ℕ) (k : 𝕂) :
    iprop((owns (c : Thread nD τ) (vW d h s) fullShare (sv T d s h.val (bk d c)) ∗ owns (c : Thread nD τ) (sW d s) fullShare (sv T d s h.val c)) ∗ shared T W K c n)
      ⊢ iprop((((ownsAny c (vW d h s) ∗ owns (c : Thread nD τ) (sW d s) fullShare (sv T d s h'.val c)) ∗ shared T W K c n) -∗ wpK c k Q)
        -∗ wpK c (addStep c h h' d s k) Q) := by
  unfold addStep ownsAny shared
  iintro ⟨⟨Hv, Hs⟩, #HR, #HL, HT, HO⟩ Hk
  iapply (wp_load_sq 𝒱₀ (c : Thread nD τ) none Set.univ (m := vM) (r := vR d h s) (hr := fun _ => rfl) (hq := squeezes_S1x1x1x128x1024_S128x1024)) $$ Hv
  iintro Hv
  iapply (wp_load_sub 𝒱₀ (c : Thread nD τ) none Set.univ (m := tM)) $$ HT
  iintro HT
  iapply (wp_load_sq 𝒱₀ (c : Thread nD τ) none Set.univ (m := sM) (r := sR d s) (hr := fun _ => rfl) (hq := squeezes_S1x1x128x1024_S128x1024)) $$ Hs
  iintro Hs
  iapply (wp_store_sq 𝒱₀ (c : Thread nD τ) none Set.univ (m := sM) (r := sR d s) (hr := fun _ => rfl) (hq := squeezes_S1x1x128x1024_S128x1024)) $$ Hs
  iintro Hs
  have e := pay11_apply (sv T d s h.val (bk d c)) (fun i => T c ((rowsR (inOff c d h' s) (inOff_inb c d h' s)).emb i))
    squeezes_S1x1x128x1024_S128x1024 squeezes_S1x1x1x128x1024_S128x1024
  have e' : sv T d s h'.val c = addf (sv T d s h.val (bk d c)) (rnd (fun i => T c ((rowsR (inOff c d h' s) (inOff_inb c d h' s)).emb i))) := by
    refine Eq.trans ?_ (congrArg (fun v : FVec F S128x1024 .f32 => addf (sv T d s h.val (bk d c)) (rnd v)) (rows_eq (ho := inOff_inb c d h' s) (inOff_eq c d h' s) (T c)).symm)
    rw [hh]; rfl
  iapply Hk
  isplitl [Hs Hv]
  · isplitl [Hv]; · iexists _; iexact Hv
    rw [e', ← e]
    iexact Hs
  isplitr; · iexact HR
  isplitr; · iexact HL
  isplitl [HT] <;> iassumption

/-- A later hop of the reduction: the wait for the arrival and for the departure before, the sum, the next departure. -/
theorem red_step (h h' : Fin 3) (hh : h'.val = h.val + 1) (d : Fin 2) (s : Fin 4) (k : 𝕂) :
    iprop((coming c (0, h, d, s) ∗ sent c (0, h, d, s) ∗ unsent c (0, h', d, s) ∗ landing c (0, h', d, s)) ∗ shared T W K c (8 * h'.val + 4 * d.val + s.val))
      ⊢ iprop((((recvZ c (0, h, d, s) ∗ sendZ c (0, h, d, s) ∗ ownsAny c (vW d h s) ∗ sent c (0, h', d, s))
          ∗ shared T W K c (8 * h'.val + 4 * d.val + s.val + 1)) -∗ wpK c k Q)
        -∗ wpK c (redStep c h h' d s k) Q) := by
  unfold redStep waitRecvStep waitSendStep
  iintro ⟨⟨Hc, Hd, Hu, Hl⟩, HS⟩ Hk
  iapply (wp_arriveX T W K c 0 h d s (8 * h'.val + 4 * d.val + s.val) (by rw [hh]; simp; omega) (sW d s) (vW d h s) rfl _) $$ [Hc HS]
  · isplitl [Hc] <;> iassumption
  iintro ⟨Hv, Hzr, HS⟩
  iapply (wp_departX T W K c 0 h d s (8 * h'.val + 4 * d.val + s.val) (vW d h s) (sW d s) rfl _) $$ [Hd HS]
  · isplitl [Hd] <;> iassumption
  iintro ⟨Hs, Hzs, HS⟩
  iapply (add_step T W K c h h' hh d s (8 * h'.val + 4 * d.val + s.val) _) $$ [Hv Hs HS]
  · isplitl [Hv Hs]
    · isplitl [Hv]; · iexact Hv
      iexact Hs
    · iexact HS
  iintro ⟨⟨Hv, Hs⟩, HS⟩
  iapply (send_step T W K c h' d s k) $$ [Hs Hu Hl HS]
  · isplitr [HS]
    · isplitl [Hs]; · iexact Hs
      isplitl [Hu] <;> iassumption
    · iexact HS
  iintro ⟨Hd, HS⟩
  iapply Hk
  isplitr [HS]
  · isplitl [Hzr]; · iexact Hzr
    isplitl [Hzs]; · iexact Hzs
    isplitl [Hv] <;> iassumption
  · iexact HS

/-! ## The product and the gathering -/

/-- The product of a finished segment. -/
theorem mul_step (d : Fin 2) (s : Fin 4) (n : ℕ) (k : 𝕂) :
    iprop((owns (c : Thread nD τ) (vW d 2 s) fullShare (sv T d s 2 (bk d c)) ∗ ownsAny c (gS c d s)) ∗ shared T W K c n)
      ⊢ iprop((((ownsAny c (vW d 2 s) ∗ owns (c : Thread nD τ) (gS c d s) fullShare (yv T W c d s)) ∗ shared T W K c n) -∗ wpK c k Q)
        -∗ wpK c (mulStep c (k0_pay10 (W c)) d s k) Q) := by
  rw [← gW_own c d s]
  unfold mulStep ownsAny shared
  iintro ⟨⟨Hv, ⟨%X, Hg⟩⟩, #HR, #HL, HT, HO⟩ Hk
  iapply (wp_load_sq 𝒱₀ (c : Thread nD τ) none Set.univ (m := vM) (r := vR d 2 s) (hr := fun _ => rfl) (hq := squeezes_S1x1x1x128x1024_S128x1024)) $$ Hv
  iintro Hv
  iapply (wp_load_sub 𝒱₀ (c : Thread nD τ) none Set.univ (m := tM)) $$ HT
  iintro HT
  iapply (wp_load_win 𝒱₀ (c : Thread nD τ) none Set.univ (m := gM) (r := rowsR (ownOff c d s) (ownOff_inb c d s)) (hr := fun _ => rfl)) $$ Hg
  iintro Hg
  iapply (wp_store_win 𝒱₀ (c : Thread nD τ) none Set.univ (m := gM) (r := rowsR (ownOff c d s) (ownOff_inb c d s)) (hr := fun _ => rfl)) $$ Hg
  iintro Hg
  have e := pay30_apply (k0_pay10 (W c)) (sv T d s 2 (bk d c)) (fun i => T c ((rowsR (ownOff c d s) (ownOff_inb c d s)).emb i))
    squeezes_S1x1x1x128x1024_S128x1024
  have e' : yv T W c d s = mulW (k0_pay10 (W c)) (addf (sv T d s 2 (bk d c)) (rnd (fun i => T c ((rowsR (ownOff c d s) (ownOff_inb c d s)).emb i)))) := by
    exact congrArg (fun v : FVec F S128x1024 .f32 => mulW (k0_pay10 (W c)) (addf (sv T d s 2 (bk d c)) (rnd v))) (rows_eq (ho := ownOff_inb c d s) (ownOff_eq c d s) (T c)).symm
  iapply Hk
  isplitl [Hg Hv]
  · isplitl [Hv]; · iexists _; iexact Hv
    rw [e', ← e]
    iexact Hg
  isplitr; · iexact HR
  isplitr; · iexact HL
  isplitl [HT] <;> iassumption

/-- A hop of the gathering leaves, with half of its rows. -/
theorem gsend_step (h : Fin 3) (d : Fin 2) (s : Fin 4) (k : 𝕂) :
    iprop((owns (c : Thread nD τ) (gS (lnCh c d h.val) d s) fullShare.left (yv T W (lnCh c d h.val) d s) ∗ unsent c (1, h, d, s) ∗ landing c (1, h, d, s))
        ∗ shared T W K c (24 + 8 * h.val + 4 * d.val + s.val))
      ⊢ iprop(((sent c (1, h, d, s) ∗ shared T W K c (24 + 8 * h.val + 4 * d.val + s.val + 1)) -∗ wpK c k Q) -∗ wpK c (gSendStep c h d s k) Q) := by
  unfold gSendStep
  iintro ⟨⟨Hs, Hu, Hl⟩, HS⟩ Hk
  iapply (wp_sendX T W K c 1 h d s (24 + 8 * h.val + 4 * d.val + s.val) (by unfold ord; simp) (nbP c d) (nbP_eq c d)
    (gW (lnOff c d h s) (lnOff_inb c d h s)) (gW (lnOff c d h s) (lnOff_inb c d h s)) (gW_ln c d h s) ((gW_ln c d h s).trans (by rw [← inCh_nb])) k) $$ [Hs Hu Hl HS]
  · isplitl [Hs]; · iexact Hs
    isplitl [Hu]; · iexact Hu
    isplitl [Hl] <;> iassumption
  iexact Hk

/-- The last arrival of the reduction, the product, and the first departure of the gathering. -/
theorem fin_step (d : Fin 2) (s : Fin 4) (k : 𝕂) :
    iprop((coming c (0, 2, d, s) ∗ ownsAny c (gS c d s) ∗ unsent c (1, 0, d, s) ∗ landing c (1, 0, d, s)) ∗ shared T W K c (24 + 4 * d.val + s.val))
      ⊢ iprop((((recvZ c (0, 2, d, s) ∗ ownsAny c (vW d 2 s) ∗ owns (c : Thread nD τ) (gS c d s) fullShare.right (yv T W c d s) ∗ sent c (1, 0, d, s))
          ∗ shared T W K c (24 + 4 * d.val + s.val + 1)) -∗ wpK c k Q)
        -∗ wpK c (finStep c (k0_pay10 (W c)) d s k) Q) := by
  unfold finStep waitRecvStep
  iintro ⟨⟨Hc, Hg, Hu, Hl⟩, HS⟩ Hk
  iapply (wp_arriveX T W K c 0 2 d s (24 + 4 * d.val + s.val) (by simp; omega) (sW d s) (vW d 2 s) rfl _) $$ [Hc HS]
  · isplitl [Hc] <;> iassumption
  iintro ⟨Hv, Hzr, HS⟩
  iapply (mul_step T W K c d s (24 + 4 * d.val + s.val) _) $$ [Hv Hg HS]
  · isplitl [Hv Hg]
    · isplitl [Hv]; · iexact Hv
      iexact Hg
    · iexact HS
  iintro ⟨⟨Hv, Hg⟩, HS⟩
  ihave Hg2 := (owns_halves (c : Thread nD τ) (gS c d s) fullShare (yv T W c d s)).1 $$ Hg
  icases Hg2 with ⟨Hg1, Hg2⟩
  iapply (gsend_step T W K c 0 d s k) $$ [Hg1 Hu Hl HS]
  · isplitr [HS]
    · isplitl [Hg1]
      · rw [show lnCh c d (0 : Fin 3).val = c from lnCh_zero c d]; iexact Hg1
      isplitl [Hu] <;> iassumption
    · iexact HS
  iintro ⟨Hd, HS⟩
  iapply Hk
  isplitr [HS]
  · isplitl [Hzr]; · iexact Hzr
    isplitl [Hv]; · iexact Hv
    isplitl [Hg2] <;> iassumption
  · iexact HS

/-- The wait for an arrival of the gathering. -/
theorem garrive_step (h : Fin 3) (d : Fin 2) (s : Fin 4) (n : ℕ) (hn : 24 + 8 * h.val + 8 ≤ n) (k : 𝕂) :
    iprop(coming c (1, h, d, s) ∗ shared T W K c n)
      ⊢ iprop(((owns (c : Thread nD τ) (gS (inCh c d h.val) d s) fullShare (yv T W (inCh c d h.val) d s) ∗ recvZ c (1, h, d, s) ∗ shared T W K c n) -∗ wpK c k Q)
        -∗ wpK c (gWaitRecvStep c h d s k) Q) := by
  unfold gWaitRecvStep
  iintro ⟨Hc, HS⟩ Hk
  iapply (wp_arriveX T W K c 1 h d s n (by simpa using hn) (gW (lnOff c d h s) (lnOff_inb c d h s)) (gW (lnOff c d h s) (lnOff_inb c d h s)) rfl k) $$ [Hc HS]
  · isplitl [Hc] <;> iassumption
  iintro ⟨Hg, Hz, HS⟩
  iapply Hk
  isplitl [Hg]
  · rw [show yv T W (inCh c d h.val) d s = xval T W (bk d c) 1 h d s from by
      show _ = yv T W (lnCh (bk d c) d h.val) d s
      rw [lnCh_bk]]
    iexact Hg
  isplitl [Hz] <;> iassumption

/-- A later hop of the gathering: what arrived leaves again, half of it kept. -/
theorem gat_step (h h' : Fin 3) (hh : h'.val = h.val + 1) (d : Fin 2) (s : Fin 4) (k : 𝕂) :
    iprop((coming c (1, h, d, s) ∗ unsent c (1, h', d, s) ∗ landing c (1, h', d, s)) ∗ shared T W K c (24 + 8 * h'.val + 4 * d.val + s.val))
      ⊢ iprop((((recvZ c (1, h, d, s) ∗ owns (c : Thread nD τ) (gS (inCh c d h.val) d s) fullShare.right (yv T W (inCh c d h.val) d s) ∗ sent c (1, h', d, s))
          ∗ shared T W K c (24 + 8 * h'.val + 4 * d.val + s.val + 1)) -∗ wpK c k Q)
        -∗ wpK c (gatStep c h h' d s k) Q) := by
  unfold gatStep
  iintro ⟨⟨Hc, Hu, Hl⟩, HS⟩ Hk
  iapply (garrive_step T W K c h d s (24 + 8 * h'.val + 4 * d.val + s.val) (by rw [hh]; omega) _) $$ [Hc HS]
  · isplitl [Hc] <;> iassumption
  iintro ⟨Hg, Hz, HS⟩
  ihave Hg2 := (owns_halves (c : Thread nD τ) (gS (inCh c d h.val) d s) fullShare (yv T W (inCh c d h.val) d s)).1 $$ Hg
  icases Hg2 with ⟨Hg1, Hg2⟩
  iapply (gsend_step T W K c h' d s k) $$ [Hg1 Hu Hl HS]
  · isplitr [HS]
    · isplitl [Hg1]
      · rw [show lnCh c d h'.val = inCh c d h.val from by rw [hh, lnCh_succ]]; iexact Hg1
      isplitl [Hu] <;> iassumption
    · iexact HS
  iintro ⟨Hd, HS⟩
  iapply Hk
  isplitr [HS]
  · isplitl [Hz]; · iexact Hz
    isplitl [Hg2] <;> iassumption
  · iexact HS

/-! ## The result -/

/-- Copying a gathered block to the result. -/
theorem copy_step {o : Fin 2 → Nat} {ho} {j : Dev nD} {d : Fin 2} {s : Fin 4} (h : o = segOff j d s) (q : PosShare TreeShare) (n : ℕ) (k : 𝕂) :
    iprop((owns (c : Thread nD τ) (gS j d s) q (yv T W j d s) ∗ ownsAny c (oS j d s)) ∗ shared T W K c n)
      ⊢ iprop((((owns (c : Thread nD τ) (gS j d s) q (yv T W j d s) ∗ owns (c : Thread nD τ) (oS j d s) fullShare (outv T W j d s)) ∗ shared T W K c n) -∗ wpK c k Q)
        -∗ wpK c (copyStep o ho k) Q) := by
  subst h
  unfold copyStep ownsAny
  iintro ⟨⟨Hg, ⟨%X, Ho⟩⟩, HS⟩ Hk
  iapply (wp_load_win 𝒱₀ (c : Thread nD τ) none Set.univ (m := gM) (r := segR j d s) (hr := fun _ => rfl)) $$ Hg
  iintro Hg
  iapply (wp_load_win 𝒱₀ (c : Thread nD τ) none Set.univ (m := oM) (r := segR j d s) (hr := fun _ => rfl)) $$ Ho
  iintro Ho
  iapply (wp_store_win 𝒱₀ (c : Thread nD τ) none Set.univ (m := oM) (r := segR j d s) (hr := fun _ => rfl)) $$ Ho
  iintro Ho
  iapply Hk
  isplitr [HS]
  · isplitl [Hg]; · iexact Hg
    iexact Ho
  · iexact HS

/-- Copying the rows that arrived at hop `h`. -/
theorem out_step (h : Fin 3) (d : Fin 2) (s : Fin 4) (n : ℕ) (k : 𝕂) :
    iprop((owns (c : Thread nD τ) (gS (inCh c d h.val) d s) fullShare.right (yv T W (inCh c d h.val) d s) ∗ ownsAny c (oS (inCh c d h.val) d s)) ∗ shared T W K c n)
      ⊢ iprop((((owns (c : Thread nD τ) (gS (inCh c d h.val) d s) fullShare.right (yv T W (inCh c d h.val) d s)
          ∗ owns (c : Thread nD τ) (oS (inCh c d h.val) d s) fullShare (outv T W (inCh c d h.val) d s)) ∗ shared T W K c n) -∗ wpK c k Q)
        -∗ wpK c (outStep c h d s k) Q) :=
  copy_step T W K c (inOff_eq c d h s) fullShare.right n k

/-- Copying the device's own rows. -/
theorem own_step (d : Fin 2) (s : Fin 4) (n : ℕ) (k : 𝕂) :
    iprop((owns (c : Thread nD τ) (gS c d s) fullShare.right (yv T W c d s) ∗ ownsAny c (oS c d s)) ∗ shared T W K c n)
      ⊢ iprop((((owns (c : Thread nD τ) (gS c d s) fullShare.right (yv T W c d s)
          ∗ owns (c : Thread nD τ) (oS c d s) fullShare (outv T W c d s)) ∗ shared T W K c n) -∗ wpK c k Q)
        -∗ wpK c (ownStep c d s k) Q) :=
  copy_step T W K c (ownOff_eq c d s) fullShare.right n k

/-- The last arrival of the gathering and its copy. -/
theorem last_step (d : Fin 2) (s : Fin 4) (k : 𝕂) :
    iprop((coming c (1, 2, d, s) ∗ ownsAny c (oS (inCh c d 2) d s)) ∗ shared T W K c 48)
      ⊢ iprop((((recvZ c (1, 2, d, s) ∗ owns (c : Thread nD τ) (gS (inCh c d 2) d s) fullShare (yv T W (inCh c d 2) d s)
          ∗ owns (c : Thread nD τ) (oS (inCh c d 2) d s) fullShare (outv T W (inCh c d 2) d s)) ∗ shared T W K c 48) -∗ wpK c k Q)
        -∗ wpK c (lastStep c d s k) Q) := by
  unfold lastStep
  iintro ⟨⟨Hc, Ho⟩, HS⟩ Hk
  iapply (garrive_step T W K c 2 d s 48 (by simp) _) $$ [Hc HS]
  · isplitl [Hc] <;> iassumption
  iintro ⟨Hg, Hz, HS⟩
  iapply (copy_step T W K c (inOff_eq c d 2 s) fullShare 48 k) $$ [Hg Ho HS]
  · isplitr [HS]
    · isplitl [Hg]; · iexact Hg
      iexact Ho
    · iexact HS
  iintro ⟨⟨Hg, Ho⟩, HS⟩
  iapply Hk
  isplitr [HS]
  · isplitl [Hz]; · iexact Hz
    isplitl [Hg]; · iexact Hg
    iexact Ho
  · iexact HS

/-! ## The departures at the end -/

/-- The last departure of the reduction: the sending slot is free. -/
theorem depart_step (d : Fin 2) (s : Fin 4) (n : ℕ) (k : 𝕂) :
    iprop(sent c (0, 2, d, s) ∗ shared T W K c n)
      ⊢ iprop((((sendZ c (0, 2, d, s) ∗ ownsAny c (sW d s)) ∗ shared T W K c n) -∗ wpK c k Q) -∗ wpK c (waitSendStep 2 d s k) Q) := by
  unfold waitSendStep ownsAny
  iintro ⟨Hd, HS⟩ Hk
  iapply (wp_departX T W K c 0 2 d s n (vW d 2 s) (sW d s) rfl k) $$ [Hd HS]
  · isplitl [Hd] <;> iassumption
  iintro ⟨Hs, Hz, HS⟩
  iapply Hk
  isplitr [HS]
  · isplitl [Hz]; · iexact Hz
    iexists _; iexact Hs
  · iexact HS

/-- A departure of the gathering: the half that left comes back. -/
theorem gdepart_step (h : Fin 3) (d : Fin 2) (s : Fin 4) (n : ℕ) (k : 𝕂) :
    iprop(sent c (1, h, d, s) ∗ shared T W K c n)
      ⊢ iprop((((sendZ c (1, h, d, s) ∗ owns (c : Thread nD τ) (gS (lnCh c d h.val) d s) fullShare.left (yv T W (lnCh c d h.val) d s)) ∗ shared T W K c n) -∗ wpK c k Q)
        -∗ wpK c (gWaitSendStep c h d s k) Q) := by
  unfold gWaitSendStep
  iintro ⟨Hd, HS⟩ Hk
  iapply (wp_departX T W K c 1 h d s n (gW (lnOff c d h s) (lnOff_inb c d h s)) (gW (lnOff c d h s) (lnOff_inb c d h s)) rfl k) $$ [Hd HS]
  · isplitl [Hd] <;> iassumption
  iintro ⟨Hs, Hz, HS⟩
  iapply Hk
  isplitr [HS]
  · isplitl [Hz]; · iexact Hz
    iexact Hs
  · iexact HS

end Cert.RingProof
-- ==== Proof.Body.lean ====
/-
# The body of one device

The phases of the program over all lanes, and the body run from the device's share of the protocol to its end.
-/
module

public import proofs.«01_k».proof.Proof.Phases
public import Idealize.ShloMosaic.Lib.VecWindow

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕂" => Prog (TpuEff nD τ sig (Elt F) Λ₀ Proc.tc) PUnit

/-! ## Families -/

theorem hops_sep (A B : Fin 2 → Fin 3 → sProp 𝕄) : hops (fun p h => iprop(A p h ∗ B p h)) = iprop(hops A ∗ hops B) := by
  refine Entails.antisymm
    (show iprop(((A 0 0 ∗ B 0 0) ∗ (A 0 1 ∗ B 0 1) ∗ (A 0 2 ∗ B 0 2)) ∗ (A 1 0 ∗ B 1 0) ∗ (A 1 1 ∗ B 1 1) ∗ (A 1 2 ∗ B 1 2))
      ⊢ iprop(((A 0 0 ∗ A 0 1 ∗ A 0 2) ∗ (A 1 0 ∗ A 1 1 ∗ A 1 2)) ∗ ((B 0 0 ∗ B 0 1 ∗ B 0 2) ∗ (B 1 0 ∗ B 1 1 ∗ B 1 2))) from ?_)
    (show iprop(((A 0 0 ∗ A 0 1 ∗ A 0 2) ∗ (A 1 0 ∗ A 1 1 ∗ A 1 2)) ∗ ((B 0 0 ∗ B 0 1 ∗ B 0 2) ∗ (B 1 0 ∗ B 1 1 ∗ B 1 2)))
      ⊢ iprop(((A 0 0 ∗ B 0 0) ∗ (A 0 1 ∗ B 0 1) ∗ (A 0 2 ∗ B 0 2)) ∗ (A 1 0 ∗ B 1 0) ∗ (A 1 1 ∗ B 1 1) ∗ (A 1 2 ∗ B 1 2)) from ?_)
  · iintro ⟨⟨⟨A0, B0⟩, ⟨A1, B1⟩, ⟨A2, B2⟩⟩, ⟨A3, B3⟩, ⟨A4, B4⟩, ⟨A5, B5⟩⟩
    isplitl [A0 A1 A2 A3 A4 A5]
    · isplitl [A0 A1 A2]
      · isplitl [A0]; · iexact A0
        isplitl [A1] <;> iassumption
      · isplitl [A3]; · iexact A3
        isplitl [A4] <;> iassumption
    · isplitl [B0 B1 B2]
      · isplitl [B0]; · iexact B0
        isplitl [B1] <;> iassumption
      · isplitl [B3]; · iexact B3
        isplitl [B4] <;> iassumption
  · iintro ⟨⟨⟨A0, A1, A2⟩, ⟨A3, A4, A5⟩⟩, ⟨⟨B0, B1, B2⟩, ⟨B3, B4, B5⟩⟩⟩
    isplitl [A0 A1 A2 B0 B1 B2]
    · isplitl [A0 B0]; · isplitl [A0] <;> iassumption
      isplitl [A1 B1]; · isplitl [A1] <;> iassumption
      isplitl [A2] <;> iassumption
    · isplitl [A3 B3]; · isplitl [A3] <;> iassumption
      isplitl [A4 B4]; · isplitl [A4] <;> iassumption
      isplitl [A5] <;> iassumption

variable (T : Dev nD → FVec F S4096x1024 .f32) (W : Dev nD → FVec F S1024x1024 .f32)
variable (K : Dev nD × CI → ℕ) (c : Dev nD)

/-- One assertion for each block of a chunked array, in the order of device `c`: its own chunk's, then those that
    arrive at each hop. -/
def segs (Φ : Dev nD → Fin 2 → Fin 4 → sProp 𝕄) : sProp 𝕄 :=
  iprop(lane8 (Φ c) ∗ lane8 (fun d s => Φ (inCh c d (0 : Fin 3).val) d s) ∗ lane8 (fun d s => Φ (inCh c d (1 : Fin 3).val) d s) ∗ lane8 fun d s => Φ (inCh c d (2 : Fin 3).val) d s)

/-- The windows of the device that the transfers of direction `d` land in. -/
def mine (d : Fin 2) : sProp 𝕄 := hops fun p h => lane4 fun s => ownsAny c (landM c p h d s)

theorem barPay_up : barPay (F := F) (nb 1 c) 0 = mine c 0 := by unfold barPay mine; rw [(nb_flip c).1]
theorem barPay_down : barPay (F := F) (nb 0 c) 1 = mine c 1 := by unfold barPay mine; rw [(nb_flip c).2]

/-- What the neighbours hand over at the barrier: every window the device's transfers land in. -/
theorem barPay_landing : iprop(barPay (F := F) c 0 ∗ barPay (F := F) c 1) = hops fun p h => lane8 fun d s => landing c (p, h, d, s) := by
  unfold barPay; rw [← hops_sep]; rfl

/-- The device's own landing windows, by hop or by direction. -/
theorem mine_eq : iprop(mine (F := F) c 0 ∗ mine (F := F) c 1) = hops fun p h => lane8 fun d s => ownsAny c (landM c p h d s) := by
  unfold mine; rw [← hops_sep]; rfl

/-! ## The phases -/

section Phases

variable {Q : PUnit → sProp (MT nD τ sig Unit (Elt F) ℕ UU ℕ)}

theorem fill_phase (n : ℕ) (k : 𝕂) :
    iprop(lane8 (fun d s => ownsAny c (sW d s)) ∗ shared T W K c n)
      ⊢ iprop(((lane8 (fun d s => owns (c : Thread nD τ) (sW d s) fullShare (sv T d s 0 c)) ∗ shared T W K c n) -∗ wpK c k Q) -∗ wpK c (lanes (fillStep c) k) Q) :=
  lanes_rule c Q (st := fillStep c) (Sh := fun _ => shared T W K c n) 0 (fun d s k => fill_step T W K c d s n k) k

theorem send_phase (k : 𝕂) :
    iprop((lane8 (fun d s => owns (c : Thread nD τ) (sW d s) fullShare (sv T d s 0 c)) ∗ lane8 (fun d s => unsent c (0, 0, d, s)) ∗ lane8 (fun d s => landing c (0, 0, d, s))) ∗ shared T W K c 0)
      ⊢ iprop(((lane8 (fun d s => sent c (0, 0, d, s)) ∗ shared T W K c 8) -∗ wpK c k Q) -∗ wpK c (lanes (sendStep c 0) k) Q) := by
  simp only [← lane8_sep]
  exact lanes_rule c Q (st := sendStep c 0) (Sh := shared T W K c) (8 * (0 : Fin 3).val) (fun d s k => send_step T W K c 0 d s k) k

theorem red_phase (h h' : Fin 3) (hh : h'.val = h.val + 1) (k : 𝕂) :
    iprop((lane8 (fun d s => coming c (0, h, d, s)) ∗ lane8 (fun d s => sent c (0, h, d, s)) ∗ lane8 (fun d s => unsent c (0, h', d, s)) ∗ lane8 (fun d s => landing c (0, h', d, s)))
        ∗ shared T W K c (8 * h'.val))
      ⊢ iprop((((lane8 (fun d s => recvZ c (0, h, d, s)) ∗ lane8 (fun d s => sendZ c (0, h, d, s)) ∗ lane8 (fun d s => ownsAny c (vW d h s)) ∗ lane8 (fun d s => sent c (0, h', d, s)))
          ∗ shared T W K c (8 * h'.val + 8)) -∗ wpK c k Q)
        -∗ wpK c (lanes (redStep c h h') k) Q) := by
  simp only [← lane8_sep]
  exact lanes_rule c Q (st := redStep c h h') (Sh := shared T W K c) (8 * h'.val) (fun d s k => red_step T W K c h h' hh d s k) k

theorem fin_phase (k : 𝕂) :
    iprop((lane8 (fun d s => coming c (0, 2, d, s)) ∗ lane8 (fun d s => ownsAny c (gS c d s)) ∗ lane8 (fun d s => unsent c (1, 0, d, s)) ∗ lane8 (fun d s => landing c (1, 0, d, s)))
        ∗ shared T W K c 24)
      ⊢ iprop((((lane8 (fun d s => recvZ c (0, 2, d, s)) ∗ lane8 (fun d s => ownsAny c (vW d 2 s))
            ∗ lane8 (fun d s => owns (c : Thread nD τ) (gS c d s) fullShare.right (yv T W c d s)) ∗ lane8 (fun d s => sent c (1, 0, d, s)))
          ∗ shared T W K c 32) -∗ wpK c k Q)
        -∗ wpK c (lanes (finStep c (k0_pay10 (W c))) k) Q) := by
  simp only [← lane8_sep]
  exact lanes_rule c Q (st := finStep c (k0_pay10 (W c))) (Sh := shared T W K c) 24 (fun d s k => fin_step T W K c d s k) k

theorem gat_phase (h h' : Fin 3) (hh : h'.val = h.val + 1) (k : 𝕂) :
    iprop((lane8 (fun d s => coming c (1, h, d, s)) ∗ lane8 (fun d s => unsent c (1, h', d, s)) ∗ lane8 (fun d s => landing c (1, h', d, s)))
        ∗ shared T W K c (24 + 8 * h'.val))
      ⊢ iprop((((lane8 (fun d s => recvZ c (1, h, d, s))
            ∗ lane8 (fun d s => owns (c : Thread nD τ) (gS (inCh c d h.val) d s) fullShare.right (yv T W (inCh c d h.val) d s)) ∗ lane8 (fun d s => sent c (1, h', d, s)))
          ∗ shared T W K c (24 + 8 * h'.val + 8)) -∗ wpK c k Q)
        -∗ wpK c (lanes (gatStep c h h') k) Q) := by
  simp only [← lane8_sep]
  exact lanes_rule c Q (st := gatStep c h h') (Sh := shared T W K c) (24 + 8 * h'.val) (fun d s k => gat_step T W K c h h' hh d s k) k

theorem out_phase (h : Fin 3) (n : ℕ) (k : 𝕂) :
    iprop((lane8 (fun d s => owns (c : Thread nD τ) (gS (inCh c d h.val) d s) fullShare.right (yv T W (inCh c d h.val) d s)) ∗ lane8 (fun d s => ownsAny c (oS (inCh c d h.val) d s)))
        ∗ shared T W K c n)
      ⊢ iprop((((lane8 (fun d s => owns (c : Thread nD τ) (gS (inCh c d h.val) d s) fullShare.right (yv T W (inCh c d h.val) d s))
            ∗ lane8 (fun d s => owns (c : Thread nD τ) (oS (inCh c d h.val) d s) fullShare (outv T W (inCh c d h.val) d s)))
          ∗ shared T W K c n) -∗ wpK c k Q)
        -∗ wpK c (lanes (outStep c h) k) Q) := by
  simp only [← lane8_sep]
  exact lanes_rule c Q (st := outStep c h) (Sh := fun _ => shared T W K c n) 0 (fun d s k => out_step T W K c h d s n k) k

theorem own_phase (d : Fin 2) (n : ℕ) (k : 𝕂) :
    iprop((lane4 (fun s => owns (c : Thread nD τ) (gS c d s) fullShare.right (yv T W c d s)) ∗ lane4 (fun s => ownsAny c (oS c d s))) ∗ shared T W K c n)
      ⊢ iprop((((lane4 (fun s => owns (c : Thread nD τ) (gS c d s) fullShare.right (yv T W c d s)) ∗ lane4 (fun s => owns (c : Thread nD τ) (oS c d s) fullShare (outv T W c d s)))
          ∗ shared T W K c n) -∗ wpK c k Q)
        -∗ wpK c (four (ownStep c d) k) Q) := by
  simp only [← lane4_sep]
  exact four_rule c Q (st := ownStep c d) (Sh := fun _ => shared T W K c n) 0 (fun s k => own_step T W K c d s n k) k

theorem last_phase (d : Fin 2) (k : 𝕂) :
    iprop((lane4 (fun s => coming c (1, 2, d, s)) ∗ lane4 (fun s => ownsAny c (oS (inCh c d (2 : Fin 3).val) d s))) ∗ shared T W K c 48)
      ⊢ iprop((((lane4 (fun s => recvZ c (1, 2, d, s)) ∗ lane4 (fun s => owns (c : Thread nD τ) (gS (inCh c d (2 : Fin 3).val) d s) fullShare (yv T W (inCh c d (2 : Fin 3).val) d s))
            ∗ lane4 (fun s => owns (c : Thread nD τ) (oS (inCh c d (2 : Fin 3).val) d s) fullShare (outv T W (inCh c d (2 : Fin 3).val) d s)))
          ∗ shared T W K c 48) -∗ wpK c k Q)
        -∗ wpK c (four (lastStep c d) k) Q) := by
  simp only [← lane4_sep]
  exact four_rule c Q (st := lastStep c d) (Sh := fun _ => shared T W K c 48) 0 (fun s k => last_step T W K c d s k) k

theorem depart_phase (n : ℕ) (k : 𝕂) :
    iprop(lane8 (fun d s => sent c (0, 2, d, s)) ∗ shared T W K c n)
      ⊢ iprop((((lane8 (fun d s => sendZ c (0, 2, d, s)) ∗ lane8 (fun d s => ownsAny c (sW d s))) ∗ shared T W K c n) -∗ wpK c k Q) -∗ wpK c (lanes (waitSendStep 2) k) Q) := by
  simp only [← lane8_sep]
  exact lanes_rule c Q (st := waitSendStep 2) (Sh := fun _ => shared T W K c n) 0 (fun d s k => depart_step T W K c d s n k) k

theorem gdepart_phase (h : Fin 3) (n : ℕ) (k : 𝕂) :
    iprop(lane8 (fun d s => sent c (1, h, d, s)) ∗ shared T W K c n)
      ⊢ iprop((((lane8 (fun d s => sendZ c (1, h, d, s)) ∗ lane8 (fun d s => owns (c : Thread nD τ) (gS (lnCh c d h.val) d s) fullShare.left (yv T W (lnCh c d h.val) d s)))
          ∗ shared T W K c n) -∗ wpK c k Q)
        -∗ wpK c (lanes (gWaitSendStep c h) k) Q) := by
  simp only [← lane8_sep]
  exact lanes_rule c Q (st := gWaitSendStep c h) (Sh := fun _ => shared T W K c n) 0 (fun d s k => gdepart_step T W K c h d s n k) k

end Phases

/-! ## Joining the two halves of the gathered blocks -/

theorem lane8_split (A : Fin 2 → Fin 4 → sProp (MT nD τ sig Unit (Elt F) ℕ UU ℕ)) : lane8 A ⊢ iprop(lane4 (A 0) ∗ lane4 (A 1)) := .rfl
theorem lane8_mono {A B : Fin 2 → Fin 4 → sProp (MT nD τ sig Unit (Elt F) ℕ UU ℕ)} (h : ∀ d s, A d s ⊢ B d s) : lane8 A ⊢ lane8 B := by
  unfold lane8 lane4
  exact BI.sep_mono (BI.sep_mono (h 0 0) (BI.sep_mono (h 0 1) (BI.sep_mono (h 0 2) (h 0 3))))
    (BI.sep_mono (h 1 0) (BI.sep_mono (h 1 1) (BI.sep_mono (h 1 2) (h 1 3))))

/-- The half that came back and the half that was kept are the block again. -/
theorem join_halves (j j' : Fin 2 → Dev nD) (hj : ∀ d, j d = j' d) :
    iprop(lane8 (fun d s => owns (c : Thread nD τ) (gS (j d) d s) fullShare.left (yv T W (j d) d s))
        ∗ lane8 (fun d s => owns (c : Thread nD τ) (gS (j' d) d s) fullShare.right (yv T W (j' d) d s)))
      ⊢ lane8 fun d s => ownsAny c (gS (j' d) d s) := by
  obtain rfl : j = j' := funext hj
  rw [← lane8_sep]
  refine lane8_mono fun d s => ?_
  unfold ownsAny
  iintro H
  iexists _
  iapply (owns_halves (c : Thread nD τ) (gS (j d) d s) fullShare (yv T W (j d) d s)).2
  iexact H

/-- A block held whole is held, whatever it holds. -/
theorem any_full (j : Fin 2 → Dev nD) :
    lane8 (fun d s => owns (c : Thread nD τ) (gS (j d) d s) fullShare (yv T W (j d) d s)) ⊢ lane8 fun d s => ownsAny c (gS (j d) d s) := by
  refine lane8_mono fun d s => ?_
  unfold ownsAny
  iintro H
  iexists _
  iexact H

/-! ## The body -/

/-- What device `c`'s body starts from: the cells' records, the order of the waits, its barrier's position, tokens and
    credit, its transfers, its buffers in windows, and what it owes. -/
def bodyPre : sProp 𝕄 :=
  iprop(records T W K ∗ levAts L lv ∗ owns (c : Thread nD τ) tM fullShare (T c) ∗ owns (c : Thread nD τ) wM fullShare (W c)
    ∗ (∃ Ws, owes (c : Thread nD τ) (owe₀ c) Ws)
    ∗ (atPos ER (barCell c) 0 ∅ 0 ∗ dutyTok ER (barCell (nb 1 c)) 0 0 ∗ dutyTok ER (barCell (nb 0 c)) 0 1 ∗ cred (tallyAt (barCell c) () 2))
    ∗ (hops fun p h => lane8 fun d s => unsent c (p, h, d, s))
    ∗ (hops fun p h => lane8 fun d s => coming c (p, h, d, s))
    ∗ lane8 (fun d s => ownsAny c (sW d s))
    ∗ (hops fun p h => lane8 fun d s => ownsAny c (landM c p h d s))
    ∗ lane8 (fun d s => ownsAny c (gS c d s))
    ∗ segs c fun j d s => ownsAny c (oS j d s))

/-- What it ends with: every counter at rest, its buffers, its result, nothing owed. -/
def bodyPost : sProp 𝕄 :=
  iprop((semVal (barCell c) 0 ∗ (hops fun p h => lane8 fun d s => sendZ c (p, h, d, s)) ∗ (hops fun p h => lane8 fun d s => recvZ c (p, h, d, s)))
    ∗ owns (c : Thread nD τ) tM fullShare (T c) ∗ owns (c : Thread nD τ) wM fullShare (W c)
    ∗ (∃ Ws, owes (c : Thread nD τ) 0 Ws)
    ∗ lane8 (fun d s => ownsAny c (sW d s))
    ∗ (hops fun p h => lane8 fun d s => ownsAny c (landM c p h d s))
    ∗ lane8 (fun d s => ownsAny c (gS c d s))
    ∗ segs c fun j d s => owns (c : Thread nD τ) (oS j d s) fullShare (outv T W j d s))

theorem w_whole (X : S1024x1024.Idx → F .f32) :
    (fun i => X ((Rect.unit (s := S1024x1024) ![0, 0] S1024x1024.size inb_S1024x1024_S1024x1024_0_0).emb i)) = X :=
  funext fun i => congrArg X (Rect.emb_unit_full _ i)

/-- The body of device `c`, from its share of the protocol to its end. -/
theorem run_body (Q : PUnit → sProp (MT nD τ sig Unit (Elt F) ℕ UU ℕ)) :
    iprop(bodyPre T W K c ∗ (bodyPost T W c -∗ Q ⟨⟩)) ⊢ wpK c (bodyK c) Q := by
  unfold bodyPre bodyK
  rw [dev1_eq, dev2_eq, ← mine_eq]
  iintro ⟨⟨#HR, #HL, HT, HW, ⟨%Ws, HO⟩, ⟨HatB, Ht1, Ht0, HcB⟩, Hun, Hcm, Hs, ⟨Hm0, Hm1⟩, Hg, Ho⟩, Hk⟩
  ihave Hr1 := (records_get T W K (nb 1 c, none)) $$ HR
  ihave Hr0 := (records_get T W K (nb 0 c, none)) $$ HR
  ihave Hr := (records_get T W K (c, none)) $$ HR
  icases Hr1 with ⟨#Hi1, #Hr1⟩
  icases Hr0 with ⟨#Hi0, #Hr0⟩
  icases Hr with ⟨#HiB, #HrB⟩
  -- the two signals
  iapply (Rounds.wp_signal 𝒱₀ ER (ringRd T W) (c : Thread nD τ) none (dst := (nb 1 c : Thread nD τ)) (κ := K (nb 1 c, none))
      (d := 0) (by rw [duties_bar]; exact Finset.mem_univ _) ((amount_bar T W (nb 1 c) 0).trans (by decide)) () (owe₁ c) rfl)
    $$ [HO Ht1 Hm0]
  · isplitr; · iexact Hi1
    isplitl [HO]; · iexact HO
    isplitl [Ht1]; · iexact Ht1
    isplitl [Hm0]; · rw [payload_bar, barPay_up]; iexact Hm0
    iexact Hr1
  iintro HO
  iapply (Rounds.wp_signal 𝒱₀ ER (ringRd T W) (c : Thread nD τ) none (dst := (nb 0 c : Thread nD τ)) (κ := K (nb 0 c, none))
      (d := 1) (by rw [duties_bar]; exact Finset.mem_univ _) ((amount_bar T W (nb 0 c) 1).trans (by decide)) () (owe 0 c) rfl)
    $$ [HO Ht0 Hm1]
  · isplitr; · iexact Hi0
    isplitl [HO]; · iexact HO
    isplitl [Ht0]; · iexact Ht0
    isplitl [Hm1]; · rw [payload_bar, barPay_down]; iexact Hm1
    iexact Hr0
  iintro HO
  -- the first segments, rounded
  iapply (fill_phase T W K c 0 _) $$ [Hs HT HO]
  · isplitl [Hs]; · iexact Hs
    unfold shared
    isplitr; · iexact HR
    isplitr; · iexact HL
    isplitl [HT]; · iexact HT
    iexists _; iexact HO
  unfold shared
  iintro ⟨Hs, -, -, HT, ⟨%Ws', HO⟩⟩
  -- the barrier
  iapply (Rounds.wp_wait_rest_token 𝒱₀ ER (ringRd T W) (c : Thread nD τ) none (κ := K (c, none))
      (wpE_semWait_eq 𝒱₀ (c : Thread nD τ) none Set.univ) (Set.mem_univ _) () (O := owe 0 c) (W := Ws') (R := 0) (m := 0) (T := ∅)
      (by rw [expect_bar]; decide)) $$ [HcB HO HatB]
  · isplitr; · iexact HiB
    isplitl [HcB]; · iexact HcB
    isplitl [HO]; · iexact HO
    isplitr; · iapply (mayWait_bar c 0); iexact HL
    iexact HatB
  iintro ⟨HO, HatB, -, Hpay⟩
  ihave Hl := (Entails.of_eq ((rest_bar T W c).trans (barPay_landing c))) $$ Hpay
  imod (Rounds.cell_close ER (ringRd T W) (Set.mem_univ (K (c, none))) (fun h => h) (R := 0 + 1) (duties_later T W (barCell c))) $$ [HatB] with HzB
  · isplitr; · iexact HiB
    iexact HatB
  unfold hops
  icases Hl with ⟨⟨Hl0, Hl1, Hl2⟩, Hl3, Hl4, Hl5⟩
  icases Hun with ⟨⟨Hu0, Hu1, Hu2⟩, Hu3, Hu4, Hu5⟩
  icases Hcm with ⟨⟨Hc0, Hc1, Hc2⟩, Hc3, Hc4, Hc5⟩
  -- the reduction
  iapply (send_phase T W K c _) $$ [Hs Hu0 Hl0 HT HO]
  · isplitl [Hs Hu0 Hl0]
    · isplitl [Hs]; · iexact Hs
      isplitl [Hu0] <;> iassumption
    unfold shared
    isplitr; · iexact HR
    isplitr; · iexact HL
    isplitl [HT]; · iexact HT
    iexists _; iexact HO
  iintro ⟨Hd0, HS⟩
  iapply (wp_load_sub 𝒱₀ (c : Thread nD τ) none Set.univ (m := wM)) $$ HW
  iintro HW
  rw [w_whole]
  iapply (red_phase T W K c 0 1 rfl _) $$ [Hc0 Hd0 Hu1 Hl1 HS]
  · isplitr [HS]
    · isplitl [Hc0]; · iexact Hc0
      isplitl [Hd0]; · iexact Hd0
      isplitl [Hu1] <;> iassumption
    · iexact HS
  iintro ⟨⟨Zr0, Zs0, Hv0, Hd1⟩, HS⟩
  iapply (red_phase T W K c 1 2 rfl _) $$ [Hc1 Hd1 Hu2 Hl2 HS]
  · isplitr [HS]
    · isplitl [Hc1]; · iexact Hc1
      isplitl [Hd1]; · iexact Hd1
      isplitl [Hu2] <;> iassumption
    · iexact HS
  iintro ⟨⟨Zr1, Zs1, Hv1, Hd2⟩, HS⟩
  -- the product
  iapply (fin_phase T W K c _) $$ [Hc2 Hg Hu3 Hl3 HS]
  · isplitr [HS]
    · isplitl [Hc2]; · iexact Hc2
      isplitl [Hg]; · iexact Hg
      isplitl [Hu3] <;> iassumption
    · iexact HS
  iintro ⟨⟨Zr2, Hv2, Hgo, Hd3⟩, HS⟩
  -- the gathering and the copies to the result
  iapply (gat_phase T W K c 0 1 rfl _) $$ [Hc3 Hu4 Hl4 HS]
  · isplitr [HS]
    · isplitl [Hc3]; · iexact Hc3
      isplitl [Hu4] <;> iassumption
    · iexact HS
  iintro ⟨⟨Zr3, Hg0, Hd4⟩, HS⟩
  unfold segs
  icases Ho with ⟨Hoo, Ho0, Ho1, Ho2⟩
  iapply (out_phase T W K c 0 _ _) $$ [Hg0 Ho0 HS]
  · isplitr [HS]
    · isplitl [Hg0] <;> iassumption
    · iexact HS
  iintro ⟨⟨Hg0, Ho0⟩, HS⟩
  iapply (gat_phase T W K c 1 2 rfl _) $$ [Hc4 Hu5 Hl5 HS]
  · isplitr [HS]
    · isplitl [Hc4]; · iexact Hc4
      isplitl [Hu5] <;> iassumption
    · iexact HS
  iintro ⟨⟨Zr4, Hg1, Hd5⟩, HS⟩
  iapply (out_phase T W K c 1 _ _) $$ [Hg1 Ho1 HS]
  · isplitr [HS]
    · isplitl [Hg1] <;> iassumption
    · iexact HS
  iintro ⟨⟨Hg1, Ho1⟩, HS⟩
  ihave Hc5 := (lane8_split _) $$ Hc5
  icases Hc5 with ⟨Hc5a, Hc5b⟩
  ihave Ho2 := (lane8_split _) $$ Ho2
  icases Ho2 with ⟨Ho2a, Ho2b⟩
  ihave Hgo := (lane8_split _) $$ Hgo
  icases Hgo with ⟨Hgoa, Hgob⟩
  ihave Hoo := (lane8_split _) $$ Hoo
  icases Hoo with ⟨Hooa, Hoob⟩
  iapply (last_phase T W K c 0 _) $$ [Hc5a Ho2a HS]
  · isplitr [HS]
    · isplitl [Hc5a] <;> iassumption
    · iexact HS
  iintro ⟨⟨Zr5a, Hg2a, Ho2a⟩, HS⟩
  iapply (own_phase T W K c 0 _ _) $$ [Hgoa Hooa HS]
  · isplitr [HS]
    · isplitl [Hgoa] <;> iassumption
    · iexact HS
  iintro ⟨⟨Hgoa, Hooa⟩, HS⟩
  iapply (last_phase T W K c 1 _) $$ [Hc5b Ho2b HS]
  · isplitr [HS]
    · isplitl [Hc5b] <;> iassumption
    · iexact HS
  iintro ⟨⟨Zr5b, Hg2b, Ho2b⟩, HS⟩
  iapply (own_phase T W K c 1 _ _) $$ [Hgob Hoob HS]
  · isplitr [HS]
    · isplitl [Hgob] <;> iassumption
    · iexact HS
  iintro ⟨⟨Hgob, Hoob⟩, HS⟩
  -- the drains
  iapply (depart_phase T W K c 48 _) $$ [Hd2 HS]
  · isplitl [Hd2]; · iexact Hd2
    iexact HS
  iintro ⟨⟨Zs2, Hs⟩, HS⟩
  iapply (gdepart_phase T W K c 0 48 _) $$ [Hd3 HS]
  · isplitl [Hd3]; · iexact Hd3
    iexact HS
  iintro ⟨⟨Zs3, Hl0⟩, HS⟩
  iapply (gdepart_phase T W K c 1 48 _) $$ [Hd4 HS]
  · isplitl [Hd4]; · iexact Hd4
    iexact HS
  iintro ⟨⟨Zs4, Hl1⟩, HS⟩
  iapply (gdepart_phase T W K c 2 48 _) $$ [Hd5 HS]
  · isplitl [Hd5]; · iexact Hd5
    iexact HS
  iintro ⟨⟨Zs5, Hl2⟩, HS⟩
  ihave Hg := (join_halves T W c (fun d => lnCh c d (0 : Fin 3).val) (fun _ => c) (fun d => lnCh_zero c d)) $$ [Hl0 Hgoa Hgob]
  · isplitl [Hl0]; · iexact Hl0
    unfold lane8
    isplitl [Hgoa] <;> iassumption
  ihave Hg0 := (join_halves T W c (fun d => lnCh c d (1 : Fin 3).val) (fun d => inCh c d (0 : Fin 3).val) (fun d => lnCh_succ c d 0)) $$ [Hl1 Hg0]
  · isplitl [Hl1]; · iexact Hl1
    iexact Hg0
  ihave Hg1 := (join_halves T W c (fun d => lnCh c d (2 : Fin 3).val) (fun d => inCh c d (1 : Fin 3).val) (fun d => lnCh_succ c d 1)) $$ [Hl2 Hg1]
  · isplitl [Hl2]; · iexact Hl2
    iexact Hg1
  ihave Hg2 := (any_full T W c fun d => inCh c d (2 : Fin 3).val) $$ [Hg2a Hg2b]
  · unfold lane8
    isplitl [Hg2a] <;> iassumption
  unfold shared
  rw [owe_end]
  icases HS with ⟨-, -, HT, ⟨%Ws'', HO⟩⟩
  unfold wpK
  rw [wp_ret]
  imodintro
  iapply Hk
  unfold bodyPost hops segs
  isplitl [HzB Zr0 Zr1 Zr2 Zr3 Zr4 Zr5a Zr5b Zs0 Zs1 Zs2 Zs3 Zs4 Zs5]
  · isplitl [HzB]; · iexact HzB
    isplitl [Zs0 Zs1 Zs2 Zs3 Zs4 Zs5]
    · isplitl [Zs0 Zs1 Zs2]
      · isplitl [Zs0]; · iexact Zs0
        isplitl [Zs1] <;> iassumption
      · isplitl [Zs3]; · iexact Zs3
        isplitl [Zs4] <;> iassumption
    · isplitl [Zr0 Zr1 Zr2]
      · isplitl [Zr0]; · iexact Zr0
        isplitl [Zr1] <;> iassumption
      · isplitl [Zr3]; · iexact Zr3
        isplitl [Zr4]; · iexact Zr4
        unfold lane8
        isplitl [Zr5a] <;> iassumption
  isplitl [HT]; · iexact HT
  isplitl [HW]; · iexact HW
  isplitl [HO]; · iexists _; iexact HO
  isplitl [Hs]; · iexact Hs
  isplitl [Hv0 Hv1 Hv2 Hg0 Hg1 Hg2]
  · isplitl [Hv0 Hv1 Hv2]
    · isplitl [Hv0]; · iexact Hv0
      isplitl [Hv1] <;> iassumption
    · isplitl [Hg0]; · iexact Hg0
      isplitl [Hg1] <;> iassumption
  isplitl [Hg]; · iexact Hg
  isplitl [Hooa Hoob]
  · unfold lane8
    isplitl [Hooa] <;> iassumption
  isplitl [Ho0]; · iexact Ho0
  isplitl [Ho1]; · iexact Ho1
  unfold lane8
  isplitl [Ho2a] <;> iassumption

end Cert.RingProof
-- ==== Proof.Parts.lean ====
/-
# A device's buffers in parts

The sending and the receiving buffer are the conjunction of their slots, the gathering buffer and the result the
conjunction of their blocks; a result whose blocks hold what the ring computes holds one array.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles that partition an array -/

/-- Rectangles of which each index lies in exactly the one its key names are disjoint. -/
theorem key_disjoint {s : Shape} {T : Type} (r : T → Rect s) (key : s.Idx → T) (h : ∀ t x, x ∈ (r t).set ↔ key x = t) :
    ∀ t t', t ≠ t' → Disjoint (r t).set (r t').set := fun t t' hne =>
  Finset.disjoint_left.mpr fun x hx hx' => hne (((h t x).mp hx).symm.trans ((h t' x).mp hx'))

/-- And they cover the array. -/
theorem key_cover {s : Shape} {T : Type} [Fintype T] (r : T → Rect s) (key : s.Idx → T) (h : ∀ t x, x ∈ (r t).set ↔ key x = t) :
    (Finset.univ : Finset T).biUnion (fun t => (r t).set) = Finset.univ :=
  Finset.eq_univ_of_forall fun x => Finset.mem_biUnion.mpr ⟨key x, Finset.mem_univ _, (h _ x).mpr rfl⟩

section Any

variable (c : Dev nD) {s : Shape} {e : EltTy} (m : Memref sig .tc .vmem s e)

theorem any_sat : ownsAny (F := F) c m ⊣⊢ ownsSat (c : Thread nD τ) m fullShare (fun _ => True) :=
  ⟨(ownsSat_true (c : Thread nD τ) m fullShare).2, (ownsSat_true (c : Thread nD τ) m fullShare).1⟩

/-- A memref held whole, whatever it holds, is each part of a partition so held. -/
theorem any_parts {T : Type} [Fintype T] [DecidableEq T] (r : T → Rect s) (hr : ∀ t a, (r t).stride a = 1)
    (key : s.Idx → T) (h : ∀ t x, x ∈ (r t).set ↔ key x = t) :
    ownsAny (F := F) c m = BI.bigSep Finset.univ fun t => ownsAny c (m.slice (r t) (hr t)) := by
  have hd := key_disjoint r key h
  have hcov := key_cover r key h
  refine Entails.antisymm ?_ ?_
  · refine (any_sat c m).1.trans (BIBase.Entails.trans ?_ (BI.bigSep_mono fun t _ => (any_sat c _).2))
    exact (ownsSat_mono (c : Thread nD τ) m fullShare fun _ _ _ => trivial).trans
      (ownsSat_rects (c : Thread nD τ) m fullShare r hr hd hcov fun _ _ => True)
  · refine BIBase.Entails.trans (BI.bigSep_mono fun t _ => (any_sat c _).1) (BIBase.Entails.trans ?_ (any_sat c m).2)
    exact (ownsSat_of_rects (c : Thread nD τ) m fullShare r hr hd hcov fun _ _ => True).trans
      (ownsSat_mono (c : Thread nD τ) m fullShare fun _ _ => trivial)

/-- Reading a window as a matrix does not change who holds it. -/
theorem any_squeeze {s' : Shape} (hs : s.Squeezes s') : ownsAny (F := F) c (m.squeeze s' hs) = ownsAny c m := by
  unfold ownsAny owns
  refine Entails.antisymm (show ((_ : sProp 𝕄) ⊢ _) from ?_) (show ((_ : sProp 𝕄) ⊢ _) from ?_)
  · iintro ⟨%X, %f, -, H⟩
    iexists _, f
    isplitr; · ipureintro; rfl
    have e : (m.squeeze s' hs).view.set = m.view.set := View.set_reshape _ _
    rw [e]
    iexact H
  · iintro ⟨%X, %f, -, H⟩
    iexists _, f
    isplitr; · ipureintro; rfl
    have e : (m.squeeze s' hs).view.set = m.view.set := View.set_reshape _ _
    rw [e]
    iexact H

end Any

/-! ## The parts -/

theorem sR_key (t : Fin 2 × Fin 4) (x : S2x4x128x1024.Idx) :
    x ∈ (sR t.1 t.2).set ↔ ((⟨(x 0).val, (x 0).isLt⟩, ⟨(x 1).val, (x 1).isLt⟩) : Fin 2 × Fin 4) = t := by
  obtain ⟨d, s⟩ := t
  rw [Rect.mem_set_unit, Fin.forall_fin_succ, Fin.forall_fin_succ, Fin.forall_fin_succ, Fin.forall_fin_succ]
  rw [Prod.mk.injEq, Fin.ext_iff, Fin.ext_iff]
  have h2 : (x 2).val < 128 := (x 2).isLt
  have h3 : (x 3).val < 1024 := (x 3).isLt
  show (d.val ≤ (x 0).val ∧ (x 0).val < d.val + 1) ∧ (s.val ≤ (x 1).val ∧ (x 1).val < s.val + 1) ∧ (0 ≤ (x 2).val ∧ (x 2).val < 0 + 128)
    ∧ (0 ≤ (x 3).val ∧ (x 3).val < 0 + 1024) ∧ (∀ i : Fin 0, _) ↔ (x 0).val = d.val ∧ (x 1).val = s.val
  simp only [IsEmpty.forall_iff, and_true]
  omega

theorem vR_key (t : Fin 3 × Fin 2 × Fin 4) (x : S2x3x4x128x1024.Idx) :
    x ∈ (vR t.2.1 t.1 t.2.2).set ↔ ((⟨(x 1).val, (x 1).isLt⟩, ⟨(x 0).val, (x 0).isLt⟩, ⟨(x 2).val, (x 2).isLt⟩) : Fin 3 × Fin 2 × Fin 4) = t := by
  obtain ⟨h, d, s⟩ := t
  rw [Rect.mem_set_unit, Fin.forall_fin_succ, Fin.forall_fin_succ, Fin.forall_fin_succ, Fin.forall_fin_succ, Fin.forall_fin_succ]
  rw [Prod.mk.injEq, Prod.mk.injEq, Fin.ext_iff, Fin.ext_iff, Fin.ext_iff]
  have h2 : (x 3).val < 128 := (x 3).isLt
  have h3 : (x 4).val < 1024 := (x 4).isLt
  show (d.val ≤ (x 0).val ∧ (x 0).val < d.val + 1) ∧ (h.val ≤ (x 1).val ∧ (x 1).val < h.val + 1) ∧ (s.val ≤ (x 2).val ∧ (x 2).val < s.val + 1)
    ∧ (0 ≤ (x 3).val ∧ (x 3).val < 0 + 128) ∧ (0 ≤ (x 4).val ∧ (x 4).val < 0 + 1024) ∧ (∀ i : Fin 0, _)
    ↔ (x 1).val = h.val ∧ (x 0).val = d.val ∧ (x 2).val = s.val
  simp only [IsEmpty.forall_iff, and_true]
  omega

/-- The chunk, the half, the segment and the place in its block of a row. -/
def chOf (x : S4096x1024.Idx) : Dev nD := ⟨(x 0).val / 1024, Nat.div_lt_of_lt_mul (x 0).isLt⟩
def hfOf (x : S4096x1024.Idx) : Fin 2 := ⟨(x 0).val / 512 % 2, Nat.mod_lt _ (by decide)⟩
def sgOf (x : S4096x1024.Idx) : Fin 4 := ⟨(x 0).val / 128 % 4, Nat.mod_lt _ (by decide)⟩
def inOf (x : S4096x1024.Idx) : S128x1024.Idx := fun a => match a with
  | ⟨0, _⟩ => ⟨(x 0).val % 128, Nat.mod_lt _ (by decide)⟩
  | ⟨1, _⟩ => ⟨(x 1).val, (x 1).isLt⟩

theorem segR_mem (j : Dev nD) (d : Fin 2) (s : Fin 4) (x : S4096x1024.Idx) :
    x ∈ (segR j d s).set ↔ chOf x = j ∧ hfOf x = d ∧ sgOf x = s := by
  rw [Rect.mem_set_unit, Fin.forall_fin_succ, Fin.forall_fin_succ]
  unfold chOf hfOf sgOf
  rw [Fin.ext_iff, Fin.ext_iff, Fin.ext_iff]
  have h0 : (x 0).val < 4096 := (x 0).isLt
  have h1 : (x 1).val < 1024 := (x 1).isLt
  have hj := j.isLt; have hd := d.isLt; have hs := s.isLt
  show (1024 * j.val + 512 * d.val + 128 * s.val ≤ (x 0).val ∧ (x 0).val < 1024 * j.val + 512 * d.val + 128 * s.val + 128)
    ∧ (0 ≤ (x 1).val ∧ (x 1).val < 0 + 1024) ∧ (∀ i : Fin 0, _)
    ↔ (x 0).val / 1024 = j.val ∧ (x 0).val / 512 % 2 = d.val ∧ (x 0).val / 128 % 4 = s.val
  simp only [IsEmpty.forall_iff, and_true]
  omega

/-- At which hop a chunk passes a device, its own first. -/
def hopOf (c : Dev nD) (d : Fin 2) (j : Dev nD) : Fin 4 := match d with
  | 0 => ⟨(c.val + 3 * j.val) % 4, Nat.mod_lt _ (by decide)⟩
  | 1 => ⟨(j.val + 3 * c.val) % 4, Nat.mod_lt _ (by decide)⟩
theorem lnCh_iff : ∀ (c : Dev nD) (d : Fin 2) (o : Fin 4) (j : Dev nD), j = lnCh c d o.val ↔ hopOf c d j = o := by decide

theorem lnR_key (c : Dev nD) (t : Fin 4 × Fin 2 × Fin 4) (x : S4096x1024.Idx) :
    x ∈ (segR (lnCh c t.2.1 t.1.val) t.2.1 t.2.2).set ↔ ((hopOf c (hfOf x) (chOf x), hfOf x, sgOf x) : Fin 4 × Fin 2 × Fin 4) = t := by
  obtain ⟨o, d, s⟩ := t
  rw [segR_mem, Prod.mk.injEq, Prod.mk.injEq]
  constructor
  · rintro ⟨h1, rfl, rfl⟩; exact ⟨(lnCh_iff _ _ _ _).mp h1, rfl, rfl⟩
  · rintro ⟨h1, rfl, rfl⟩; exact ⟨(lnCh_iff _ _ _ _).mpr h1, rfl, rfl⟩

/-! ## The families as products -/

theorem lane8_eq (Φ : Fin 2 → Fin 4 → sProp (MT nD τ sig Unit (Elt F) ℕ UU ℕ)) :
    bigSep Finset.univ (fun t : Fin 2 × Fin 4 => Φ t.1 t.2) = lane8 Φ := by
  rw [bigSep_univ_prod, BI.bigSep_fin_two]
  rw [bigSep_univ_eq_bigSepL [0, 1, 2, 3] (by decide) (by decide), bigSep_univ_eq_bigSepL [0, 1, 2, 3] (by decide) (by decide)]
  rfl

theorem hops3_eq (Φ : Fin 3 → Fin 2 → Fin 4 → sProp (MT nD τ sig Unit (Elt F) ℕ UU ℕ)) :
    bigSep Finset.univ (fun t : Fin 3 × Fin 2 × Fin 4 => Φ t.1 t.2.1 t.2.2) = iprop(lane8 (Φ 0) ∗ lane8 (Φ 1) ∗ lane8 (Φ 2)) := by
  rw [bigSep_univ_prod, bigSep_univ_eq_bigSepL [0, 1, 2] (by decide) (by decide)]
  simp only [lane8_eq (F := F)]
  rfl

theorem segs_eq (c : Dev nD) (Φ : Dev nD → Fin 2 → Fin 4 → sProp (MT nD τ sig Unit (Elt F) ℕ UU ℕ)) :
    bigSep Finset.univ (fun t : Fin 4 × Fin 2 × Fin 4 => Φ (lnCh c t.2.1 t.1.val) t.2.1 t.2.2) = segs c Φ := by
  rw [bigSep_univ_prod, bigSep_univ_eq_bigSepL [0, 1, 2, 3] (by decide) (by decide)]
  unfold segs
  simp only [← lnCh_succ]
  simp only [← lane8_eq (F := F)]
  conv_rhs => rw [show (fun t : Fin 2 × Fin 4 => Φ c t.1 t.2) = fun t => Φ (lnCh c t.1 (0 : Fin 4).val) t.1 t.2 from funext fun t => by rw [show (0 : Fin 4).val = 0 from rfl, lnCh_zero]]
  rfl

/-! ## The buffers -/

variable (T : Dev nD → FVec F S4096x1024 .f32) (W : Dev nD → FVec F S1024x1024 .f32) (c : Dev nD)

theorem s_parts : ownsAny (F := F) c sM = lane8 fun d s => ownsAny c (sW d s) := by
  rw [any_parts c sM (fun t : Fin 2 × Fin 4 => sR t.1 t.2) (fun _ _ => rfl) _ sR_key, ← lane8_eq]
  simp only [any_squeeze]

theorem v_parts : ownsAny (F := F) c vM
    = iprop(lane8 (fun d s => ownsAny c (vW d 0 s)) ∗ lane8 (fun d s => ownsAny c (vW d 1 s)) ∗ lane8 fun d s => ownsAny c (vW d 2 s)) := by
  rw [any_parts c vM (fun t : Fin 3 × Fin 2 × Fin 4 => vR t.2.1 t.1 t.2.2) (fun _ _ => rfl) _ vR_key, ← hops3_eq fun h d s => ownsAny c (vW d h s)]
  simp only [any_squeeze]

theorem g_parts : ownsAny (F := F) c gM = segs c fun j d s => ownsAny c (gS j d s) := by
  rw [any_parts c gM (fun t : Fin 4 × Fin 2 × Fin 4 => segR (lnCh c t.2.1 t.1.val) t.2.1 t.2.2) (fun _ _ => rfl) _ (lnR_key c), ← segs_eq]

theorem o_parts : ownsAny (F := F) c oM = segs c fun j d s => ownsAny c (oS j d s) := by
  rw [any_parts c oM (fun t : Fin 4 × Fin 2 × Fin 4 => segR (lnCh c t.2.1 t.1.val) t.2.1 t.2.2) (fun _ _ => rfl) _ (lnR_key c), ← segs_eq]

/-- What every device's result holds. -/
def outV : FVec F S4096x1024 .f32 := fun x => outv T W (chOf x) (hfOf x) (sgOf x) (inOf x)

theorem emb_row (j : Dev nD) (d : Fin 2) (s : Fin 4) (i : S128x1024.Idx) :
    (((segR j d s).emb i) 0).val = 1024 * j.val + 512 * d.val + 128 * s.val + (i 0).val :=
  congrArg (1024 * j.val + 512 * d.val + 128 * s.val + ·) (Nat.one_mul _)
theorem emb_col (j : Dev nD) (d : Fin 2) (s : Fin 4) (i : S128x1024.Idx) : (((segR j d s).emb i) 1).val = (i 1).val :=
  (Nat.zero_add _).trans (Nat.one_mul _)

theorem inOf_emb (j : Dev nD) (d : Fin 2) (s : Fin 4) (i : S128x1024.Idx) : inOf ((segR j d s).emb i) = i := by
  have h0 : (i 0).val < 128 := (i 0).isLt
  funext a
  match a with
  | ⟨0, _⟩ =>
    refine Fin.ext ?_
    show (((segR j d s).emb i) 0).val % 128 = (i 0).val
    rw [emb_row]; omega
  | ⟨1, _⟩ => exact Fin.ext (emb_col j d s i)

theorem key_emb (j : Dev nD) (d : Fin 2) (s : Fin 4) (i : S128x1024.Idx) :
    chOf ((segR j d s).emb i) = j ∧ hfOf ((segR j d s).emb i) = d ∧ sgOf ((segR j d s).emb i) = s :=
  (segR_mem j d s _).mp (by rw [← Rect.map_emb_univ]; exact Finset.mem_map_of_mem _ (Finset.mem_univ i))

/-- Its blocks are what the ring computes. -/
theorem seg_outV (j : Dev nD) (d : Fin 2) (s : Fin 4) : seg (outV T W) j d s = outv T W j d s := by
  funext i
  obtain ⟨h1, h2, h3⟩ := key_emb j d s i
  unfold seg outV
  rw [h1, h2, h3, inOf_emb]

theorem o_whole : segs c (fun j d s => owns (c : Thread nD τ) (oS j d s) fullShare (outv T W j d s))
    ⊢ owns (c : Thread nD τ) oM fullShare (outV T W) := by
  rw [← segs_eq]
  simp only [← seg_outV]
  exact owns_of_rects (Val := Elt F) (c : Thread nD τ) oM fullShare (fun t : Fin 4 × Fin 2 × Fin 4 => segR (lnCh c t.2.1 t.1.val) t.2.1 t.2.2) (fun _ _ => rfl)
    (key_disjoint _ _ (lnR_key c)) (key_cover _ _ (lnR_key c)) (outV T W)

end Cert.RingProof
-- ==== Proof.Launch.lean ====
/-
# What the launch deals each device

Every semaphore's record, the tokens of the transfers dealt round the ring to the devices that pay them, and the credits.
-/
module

public import proofs.«01_k».proof.Proof.Parts

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the transfers -/

theorem trs_eq (Φ : Tr → sProp (MT nD τ sig Unit (Elt F) ℕ UU ℕ)) : bigSep Finset.univ Φ = hops fun p h => lane8 fun d s => Φ (p, h, d, s) := by
  rw [bigSep_univ_prod, BI.bigSep_fin_two]
  exact congrArg₂ _ (hops3_eq fun h d s => Φ (0, h, d, s)) (hops3_eq fun h d s => Φ (1, h, d, s))

/-- A family over a device's semaphores: the sending ones, the receiving ones, the barrier. -/
theorem cis_eq (Φ : CI → sProp (MT nD τ sig Unit (Elt F) ℕ UU ℕ)) :
    bigSep Finset.univ Φ = iprop(((bigSep Finset.univ fun x => Φ (some (false, x))) ∗ bigSep Finset.univ fun x => Φ (some (true, x))) ∗ Φ none) := by
  rw [bigSep_univ_equiv (Equiv.optionEquivSumPUnit.{0} (Bool × Tr)).symm, BI.bigSep_univ_sum]
  refine congrArg₂ _ ?_ ?_
  · rw [show (fun a : Bool × Tr => Φ ((Equiv.optionEquivSumPUnit.{0} (Bool × Tr)).symm (Sum.inl a))) = fun a => Φ (some a) from rfl, bigSep_univ_prod,
      bigSep_univ_eq_bigSepL [false, true] (by decide) (by decide)]
    rfl
  · rw [Finset.univ_unique, bigSep_singleton]
    rfl

/-! ## The cells and the tokens -/

theorem reg_ne_dma (q : DmaSem sig) : ∀ a, (SemLoc.reg a : SemLoc sig) ≠ .dma q := fun a h => by cases h

theorem csem_inj : Function.Injective csem := by
  have hs : ∀ x y : Tr, sendS (ix x) = sendS (ix y) → x = y := fun x y h => by
    have := congrArg Fin.val h
    rw [sendS_val, sendS_val] at this
    rw [← trOf_ix x, ← trOf_ix y]; congr 1; omega
  have hr : ∀ x y : Tr, recvS (ix x) = recvS (ix y) → x = y := fun x y h => by
    have := congrArg Fin.val h
    rw [recvS_val, recvS_val] at this
    rw [← trOf_ix x, ← trOf_ix y]; congr 1; omega
  have hsr : ∀ x y : Tr, sendS (ix x) ≠ recvS (ix y) := fun x y h => by
    have := congrArg Fin.val h
    rw [sendS_val, recvS_val] at this
    have := (ix x).isLt; omega
  rintro (_ | ⟨_ | _, x⟩) (_ | ⟨_ | _, y⟩) h
  · rfl
  · exact absurd h (reg_ne_dma _ _)
  · exact absurd h (reg_ne_dma _ _)
  · exact absurd h.symm (reg_ne_dma _ _)
  · rw [hs x y (SemLoc.dma.inj h)]
  · exact absurd (SemLoc.dma.inj h) (hsr x y)
  · exact absurd h.symm (reg_ne_dma _ _)
  · exact absurd (SemLoc.dma.inj h).symm (hsr y x)
  · rw [hr x y (SemLoc.dma.inj h)]

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_inj⟩

/-- Both tokens of every cell. -/
def tokOf (x : (Dev nD × CI) × Fin 2) : GSem nD τ sig × ℕ × Fin 2 := (kcell x.1, 0, x.2)
theorem tokOf_inj : Function.Injective tokOf := by
  rintro ⟨k, d⟩ ⟨k', d'⟩ h
  have h1 : k = k' := kcell_inj (congrArg Prod.fst h)
  have h2 : d = d' := congrArg (fun y : GSem nD τ sig × ℕ × Fin 2 => y.2.2) h
  rw [h1, h2]
def ringToks : Finset (GSem nD τ sig × ℕ × Fin 2) := Finset.univ.map ⟨tokOf, tokOf_inj⟩

def u₀ : UU := (initOf (Pipeline.cells cfgs cellOf_inj) (Pipeline.launchToks cfgs cellOf_inj), initOf ringCells ringToks)

variable (T : Dev nD → FVec F S4096x1024 .f32) (W : Dev nD → FVec F S1024x1024 .f32)

/-- The tokens of one cell. -/
def tok2 (g : GSem nD τ sig) : sProp 𝕄 := iprop(dutyTok ER g 0 0 ∗ dutyTok ER g 0 1)

/-- What the launch element deals device `c`. -/
def G (c : Dev nD) : sProp 𝕄 :=
  iprop((bigSep Finset.univ fun k : CI => roundState ER (ringRd T W) (kcell (c, k)) 0)
    ∗ (bigSep Finset.univ fun k : CI => reached ER (kcell (c, k)) 0)
    ∗ (bigSep Finset.univ fun k : CI => atPos ER (kcell (c, k)) 0 ∅ 0)
    ∗ bigSep Finset.univ fun k : CI => tok2 (F := F) (kcell (c, k)))

theorem fund_ring : BI.own (ER (initOf ringCells ringToks)) ⊢ (|==> bigSep Finset.univ (G T W) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun k : CI => tok2 (F := F) (kcell (c, k)) := by
    unfold ringToks; rw [bigSep_map, bigSep_univ_prod, bigSep_univ_prod]
    refine bigSep_congr fun c _ => bigSep_congr fun k _ => ?_
    rw [BI.bigSep_fin_two]; rfl
  iintro HX
  imod (Rounds.fund ER (ringRd T W) ringCells ringToks) $$ HX with ⟨Hst, Hr, Hat, Htok⟩
  imodintro
  ihave Hst' := (Entails.of_eq (hX fun g => roundState ER (ringRd T W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- The kernel's own semaphores. -/
def osem (k : Bool × Tr) : SemLoc sig := csem (some k)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem ownSems0_eq (c : Dev nD) : (Pipeline.ownSems0 (Ix := Unit) (Name := ℕ) (U := UU) (Lvl := ℕ) (Val := Elt F) (τ := τ) osem c : sProp 𝕄)
    = iprop((hops fun p h => lane8 fun d s => sendZ c (p, h, d, s)) ∗ hops fun p h => lane8 fun d s => recvZ c (p, h, d, s)) := by
  unfold Pipeline.ownSems0
  rw [bigSep_univ_prod, bigSep_univ_eq_bigSepL [false, true] (by decide) (by decide)]
  exact congrArg₂ _ (trs_eq fun x => sendZ c x) (trs_eq fun x => recvZ c x)

theorem sems0_eq (c : Dev nD) :
    iprop(Pipeline.ownSems0 (Ix := Unit) (Name := ℕ) (U := UU) (Lvl := ℕ) (Val := Elt F) (τ := τ) osem c ∗ unscopedSems0 c)
      = (bigSep Finset.univ fun k : CI => semVal (kcell (c, k)) 0 : sProp 𝕄) := by
  rw [cis_eq, unscopedSems0_eq]
  refine congrArg (fun A : sProp 𝕄 => iprop(A ∗ semVal (barCell c) 0)) ?_
  unfold Pipeline.ownSems0
  rw [bigSep_univ_prod, bigSep_univ_eq_bigSepL [false, true] (by decide) (by decide)]
  rfl

/-! ## The records -/

theorem core_alloc (c : Dev nD) :
    iprop(Pipeline.ownSems0 (Ix := Unit) (Name := ℕ) (U := UU) (Lvl := ℕ) (Val := Elt F) (τ := τ) osem c ∗ unscopedSems0 c ∗ G T W c)
      ⊢ |={Set.univ}=> iprop((bigSep Finset.univ fun k => iprop(∃ κ : ℕ, cellInv ER (ringRd T W) κ (kcell (c, k))))
          ∗ (bigSep Finset.univ fun k : CI => reached ER (kcell (c, k)) 0)
          ∗ (bigSep Finset.univ fun k : CI => atPos ER (kcell (c, k)) 0 ∅ 0)
          ∗ bigSep Finset.univ fun k : CI => tok2 (F := F) (kcell (c, k))) := by
  unfold G
  iintro ⟨Hos, Hus, Hst, Hr, Hat, Htok⟩
  ihave Hv := (Entails.of_eq (sems0_eq (F := F) c)) $$ [Hos Hus]
  · isplitl [Hos] <;> iassumption
  imod (show iprop((bigSep Finset.univ fun k : CI => semVal (kcell (c, k)) 0) ∗ bigSep Finset.univ fun k : CI => roundState ER (ringRd T W) (kcell (c, k)) 0)
      ⊢ (|={Set.univ}=> bigSep Finset.univ fun k => iprop(∃ κ : ℕ, cellInv ER (ringRd T W) κ (kcell (c, k))) : sProp 𝕄) from by
        rw [← bigSep_sep']
        exact (bigSep_mono fun k _ => (Rounds.body_intro ER (ringRd T W) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-! ## The tokens round the ring -/

def ring (d : Fin 2) : Dev nD ≃ Dev nD := ⟨nb d, bk d, bk_nb d, nb_bk d⟩
/-- A transfer and its sender, as the transfer and its receiver. -/
def ringTr : Dev nD × Tr ≃ Dev nD × Tr :=
  ⟨fun y => (nb y.2.2.2.1 y.1, y.2), fun y => (bk y.2.2.2.1 y.1, y.2), fun y => by dsimp only; rw [bk_nb], fun y => by dsimp only; rw [nb_bk]⟩

/-- The positions and the tokens device `c` works with. -/
def mineT (c : Dev nD) : sProp 𝕄 :=
  iprop((dutyTok ER (barCell (nb 1 c)) 0 0 ∗ dutyTok ER (barCell (nb 0 c)) 0 1)
    ∗ (bigSep Finset.univ fun x : Tr => dutyTok ER (sendCell c x) 0 0)
    ∗ bigSep Finset.univ fun x : Tr => dutyTok ER (recvCell (nb x.2.2.1 c) x) 0 0)

theorem recv_around : (bigSep Finset.univ fun c : Dev nD => bigSep Finset.univ fun x : Tr => (dutyTok ER (recvCell c x) 0 0 : sProp 𝕄))
    = bigSep Finset.univ fun c : Dev nD => bigSep Finset.univ fun x : Tr => (dutyTok ER (recvCell (nb x.2.2.1 c) x) 0 0 : sProp 𝕄) := by
  rw [← bigSep_univ_prod (fun y : Dev nD × Tr => (dutyTok ER (recvCell y.1 y.2) 0 0 : sProp 𝕄)), bigSep_univ_equiv ringTr, bigSep_univ_prod]
  rfl

theorem toks_around : (bigSep Finset.univ fun c : Dev nD => bigSep Finset.univ fun k : CI => tok2 (F := F) (kcell (c, k)))
    ⊢ bigSep Finset.univ fun c : Dev nD => mineT (F := F) c := by
  unfold mineT tok2
  have e1 := bigSep_univ_equiv (ring 1) (fun c : Dev nD => (dutyTok ER (barCell c) 0 0 : sProp 𝕄))
  have e0 := bigSep_univ_equiv (ring 0) (fun c : Dev nD => (dutyTok ER (barCell c) 0 1 : sProp 𝕄))
  have hk : ∀ c : Dev nD, kcell (c, none) = barCell c := fun _ => rfl
  have hk' : ∀ (c : Dev nD) (x : Tr), kcell (c, some (false, x)) = sendCell c x ∧ kcell (c, some (true, x)) = recvCell c x := fun _ _ => ⟨rfl, rfl⟩
  simp only [cis_eq, bigSep_sep', hk, hk']
  rw [e1, e0, recv_around]
  iintro ⟨⟨⟨H1, H3⟩, H5⟩, -, H6⟩
  isplitl [H5 H6]
  · isplitl [H5]; · iexact H5
    iexact H6
  isplitl [H1]; · iexact H1
  iexact H3

/-- What device `c` starts from but its credits: the records at some names, its positions and its tokens. -/
def G' (c : Dev nD) : sProp 𝕄 :=
  iprop((∃ K, records T W K) ∗ (bigSep Finset.univ fun k : CI => atPos ER (kcell (c, k)) 0 ∅ 0) ∗ mineT c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd T W) κ (kcell (c, k))))
          ∗ (bigSep Finset.univ fun k : CI => reached ER (kcell (c, k)) 0)
          ∗ (bigSep Finset.univ fun k : CI => atPos ER (kcell (c, k)) 0 ∅ 0)
          ∗ bigSep Finset.univ fun k : CI => tok2 (F := F) (kcell (c, k))) : sProp 𝕄)
      ⊢ bigSep Finset.univ (G' T W) := by
  rw [bigSep_sep', bigSep_sep', bigSep_sep', ← bigSep_univ_prod (fun k : Dev nD × CI => iprop(∃ κ : ℕ, cellInv ER (ringRd T W) κ (kcell k))),
    ← bigSep_univ_prod (fun k : Dev nD × CI => (reached ER (kcell k) 0 : sProp 𝕄))]
  classical
  iintro ⟨HI, #HR, Hat, Htok⟩
  ihave HK := (BI.bigSep_exists_pi Finset.univ (fun (k : Dev nD × CI) (κ : ℕ) => (cellInv ER (ringRd T W) κ (kcell k) : sProp 𝕄))) $$ HI
  icases HK with ⟨%K, #HI⟩
  ihave Htk := (toks_around (F := F)) $$ Htok
  iapply (bigSep_with_persistent (R := records T W K)
    (Φ := fun c : Dev nD => iprop((bigSep Finset.univ fun k : CI => atPos ER (kcell (c, k)) 0 ∅ 0) ∗ mineT c)) fun c _ => by
      unfold G'
      iintro ⟨HR, H⟩
      isplitl [HR]; · iexists K; iexact HR
      iexact H)
  isplitr
  · unfold records
    rw [bigSep_sep']
    isplitr; · iexact HI
    iexact HR
  · rw [bigSep_sep']
    isplitl [Hat] <;> iassumption

/-- The launch's step over all devices. -/
theorem glob : (bigSep Finset.univ fun c => iprop(Pipeline.ownSems0 (Ix := Unit) (Name := ℕ) (U := UU) (Lvl := ℕ) (Val := Elt F) (τ := τ) osem c ∗ unscopedSems0 c ∗ G T W c) : sProp 𝕄)
    ⊢ |={Set.univ}=> bigSep Finset.univ (G' T W) :=
  ((bigSep_mono fun c _ => core_alloc T W c).trans (bigSep_fupd _ _)).trans (BI.fupd_mono (regroup T W))

/-! ## The credits -/

theorem recvCell_ne_bar (a b : Dev nD) (x : Tr) : barCell b ≠ recvCell a x := fun h => reg_ne_dma (recvS (ix x)) barS (congrArg Prod.snd h)

/-- What is owed device `c`'s cells by a device `d`. -/
theorem owe₀_bar (d c : Dev nD) : owe₀ d (barCell c) () = (if d = nb 1 c then 1 else 0) + (if d = nb 0 c then 1 else 0) := by
  have h0 : owe 0 d (barCell c) () = 0 := by
    by_contra h
    obtain ⟨x, -, hx⟩ := owe_pos (Nat.pos_of_ne_zero h)
    exact recvCell_ne_bar _ _ _ hx
  unfold owe₀ owe₁
  generalize owe 0 d = O at h0 ⊢
  rw [Pi.add_apply, Finsupp.add_apply, Pi.add_apply, Finsupp.add_apply, h0, Nat.zero_add, tallyAt_apply, tallyAt_apply]
  have hb : ∀ a b : Dev nD, barCell a = barCell b ↔ a = b := fun a b => ⟨fun h => congrArg (fun g : GSem nD τ sig => g.1.1) h, fun h => h ▸ rfl⟩
  simp only [and_true, hb]
  have h1 : ∀ d c : Dev nD, c = nb 0 d ↔ d = nb 1 c := by decide
  have h2 : ∀ d c : Dev nD, c = nb 1 d ↔ d = nb 0 c := by decide
  simp only [h1 d c, h2 d c]

theorem owe₀_recv (d c : Dev nD) (x : Tr) : owe₀ d (recvCell c x) () = if d = bk x.2.2.1 c then N else 0 := by
  unfold owe₀ owe₁
  have h0 : owe 0 d (recvCell c x) () = if d = bk x.2.2.1 c then N else 0 := by
    unfold owe
    rw [Finset.sum_apply, Finsupp.finset_sum_apply, Finset.sum_eq_single x]
    · rw [if_pos (Nat.zero_le _), tallyAt_apply]
      refine if_congr ⟨fun h => ?_, fun h => ?_⟩ rfl rfl
      · have := congrArg (fun g : GSem nD τ sig => g.1.1) h.1
        rw [show c = nb x.2.2.1 d from this, bk_nb]
      · rw [h, nb_bk]; exact ⟨rfl, rfl⟩
    · intro y _ hy
      rw [if_pos (Nat.zero_le _), tallyAt_apply]
      refine if_neg fun h => hy ?_
      have := csem_inj (a₁ := some (true, x)) (a₂ := some (true, y)) (congrArg Prod.snd h.1)
      injection this with this
      exact (congrArg Prod.snd this).symm
    · exact fun h => absurd (Finset.mem_univ x) h
  have hb : ∀ e : Dev nD, ¬(recvCell c x = barCell e ∧ () = ()) := fun e h => recvCell_ne_bar _ _ _ h.1.symm
  generalize owe 0 d = O at h0 ⊢
  rw [Pi.add_apply, Finsupp.add_apply, Pi.add_apply, Finsupp.add_apply, h0, tallyAt_apply, tallyAt_apply, if_neg (hb _), if_neg (hb _)]
  rfl

theorem launch_bar (c : Dev nD) :
    tallyOn (barCell c) (launchCredit (Pipeline.owing owe₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owe₀_bar d c, Finset.sum_add_distrib,
    Finset.sum_ite_eq' Finset.univ (nb 1 c) fun _ => 1, Finset.sum_ite_eq' Finset.univ (nb 0 c) fun _ => 1, if_pos (Finset.mem_univ _), if_pos (Finset.mem_univ _)]

theorem launch_recv (c : Dev nD) (x : Tr) :
    tallyOn (recvCell c x) (launchCredit (Pipeline.owing owe₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owe₀_recv d c x, Finset.sum_ite_eq' Finset.univ (bk x.2.2.1 c) fun _ => N,
    if_pos (Finset.mem_univ _)]

/-- The credits of the barrier and of the arrivals. -/
theorem creds (c : Dev nD) :
    (Pipeline.launchCred owe₀ c : sProp 𝕄) ⊢ iprop(cred (tallyAt (barCell c) () 2) ∗ bigSep Finset.univ fun x : Tr => cred (tallyAt (recvCell c x) () N)) := by
  classical
  unfold Pipeline.launchCred
  have hsub : (Finset.univ : Finset CI).map ⟨csem, csem_inj⟩ ⊆ Finset.univ := Finset.subset_univ _
  have h : (bigSep Finset.univ fun sm : SemLoc sig => (cred (tallyOn ((c : Thread nD τ), sm) (launchCredit (Pipeline.owing owe₀) 0 ((c : Thread nD τ), sm))) : sProp 𝕄))
      ⊢ iprop(((bigSep Finset.univ fun x : Tr => cred (tallyOn (sendCell c x) (launchCredit (Pipeline.owing owe₀) 0 (sendCell c x))))
          ∗ bigSep Finset.univ fun x : Tr => cred (tallyOn (recvCell c x) (launchCredit (Pipeline.owing owe₀) 0 (recvCell c x))))
        ∗ cred (tallyOn (barCell c) (launchCredit (Pipeline.owing owe₀) 0 (barCell c)))) :=
    (bigSep_subset hsub).trans (Entails.of_eq ((bigSep_map _).trans ((cis_eq fun k : CI => cred (tallyOn ((c : Thread nD τ), csem k) (launchCredit (Pipeline.owing owe₀) 0 ((c : Thread nD τ), csem k)))).trans rfl)))
  refine BIBase.Entails.trans h ?_
  iintro ⟨⟨-, HV⟩, HB⟩
  isplitl [HB]
  · rw [← launch_bar]; iexact HB
  · simp only [← launch_recv]; iexact HV

end Cert.RingProof
-- ==== Proof.Run.lean ====
/-
# The run of the whole mesh

The proof data of the region, its body obligation, and the run of the four devices: every execution terminates, with
every semaphore counter at rest and every device's result holding what the ring computes.
-/
module

public import proofs.«01_k».proof.Proof.Launch
public import Idealize.ShloMosaic.Lib.Pipeline.CollectiveSegs
public import proofs.«01_k».proof.Proof.Gen.KernelIdeal.Points
public import proofs.«01_k».proof.Proof.Gen.KernelIdeal.Frame

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The memory the mesh starts from: `m`, every counter at zero. -/
def st₀ : MemSt nD τ sig (Elt F) := ⟨m, fun _ => 0, ρ⟩

/-- Device `c`'s rows of `t`, and its weights, as the region finds them. -/
def tIn (c : Dev nD) : FVec F S4096x1024 .f32 := iblk m c 0 t0_0
def wIn (c : Dev nD) : FVec F S1024x1024 .f32 := iblk m c 1 t0_0

/-- What device `c`'s body starts from, but its buffers. -/
def start (c : Dev nD) : sProp 𝕄 :=
  iprop(G' (tIn m) (wIn m) c ∗ (cred (tallyAt (barCell c) () 2) ∗ bigSep Finset.univ fun x : Tr => cred (tallyAt (recvCell c x) () N)) ∗ levAts L lv)

/-- The three scratch buffers, whatever they hold. -/
def scr (c : Dev nD) : sProp 𝕄 := iprop(ownsAny c sM ∗ ownsAny c vM ∗ ownsAny c gM)

/-- Every counter of the ring at rest. -/
def atRest (c : Dev nD) : sProp 𝕄 :=
  iprop(semVal (barCell c) 0 ∗ (hops fun p h => lane8 fun d s => sendZ c (p, h, d, s)) ∗ (hops fun p h => lane8 fun d s => recvZ c (p, h, d, s)))

def Φ₀ (c : Dev nD) : sProp 𝕄 := iprop(start m c ∗ scr c)
def Φ₁ (c : Dev nD) : sProp 𝕄 := iprop(atRest c ∗ scr c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => tIn m c
    | ⟨1, _⟩ => wIn m c
    | ⟨2, _⟩ => outV (tIn m) (wIn m)
  Φ t := match t with
    | ⟨0, _⟩ => Φ₀ m c
    | ⟨_ + 1, _⟩ => Φ₁ c
  q _ := fullShare
  owed t := match t with
    | ⟨0, _⟩ => owe₀ c
    | ⟨_ + 1, _⟩ => 0

theorem before_0 (c : Dev nD) (d) : (dats m ρ 0 c).before (0 : Fin 3) t0_0 d = tIn m c := by
  unfold Dat.before; rw [if_pos (fetch0_0 t0_0)]; rfl
theorem before_1 (c : Dev nD) (d) : (dats m ρ 0 c).before (1 : Fin 3) t0_0 d = wIn m c := by
  unfold Dat.before; rw [if_pos (fetch0_1 t0_0)]; rfl

/-! ## The body -/

section Body

variable (T : Dev nD → FVec F S4096x1024 .f32) (W : Dev nD → FVec F S1024x1024 .f32) (K : Dev nD × CI → ℕ) (c : Dev nD)

/-- What the launch dealt and the buffers in parts are what the body starts from. -/
theorem pre_intro :
    iprop((G' T W c ∗ (cred (tallyAt (barCell c) () 2) ∗ bigSep Finset.univ fun x : Tr => cred (tallyAt (recvCell c x) () N)) ∗ levAts L lv)
        ∗ scr c ∗ (∃ Ws, owes (c : Thread nD τ) (owe₀ c) Ws) ∗ owns (c : Thread nD τ) tM fullShare (T c) ∗ owns (c : Thread nD τ) wM fullShare (W c) ∗ ownsAny c oM)
      ⊢ iprop(∃ K, bodyPre T W K c) := by
  have hu : (hops fun p h => lane8 fun d s => unsent (F := F) c (p, h, d, s))
      = iprop((hops fun p h => lane8 fun d s => atPos ER (sendCell c (p, h, d, s)) 0 ∅ 0)
        ∗ (hops fun p h => lane8 fun d s => dutyTok ER (sendCell c (p, h, d, s)) 0 0)
        ∗ hops fun p h => lane8 fun d s => dutyTok ER (recvCell (nb d c) (p, h, d, s)) 0 0) := by
    unfold unsent; simp only [lane8_sep, hops_sep]
  have hc : (hops fun p h => lane8 fun d s => coming (F := F) c (p, h, d, s))
      = iprop((hops fun p h => lane8 fun d s => atPos ER (recvCell c (p, h, d, s)) 0 ∅ 0)
        ∗ hops fun p h => lane8 fun d s => cred (tallyAt (recvCell c (p, h, d, s)) () N)) := by
    unfold coming; simp only [lane8_sep, hops_sep]
  have ha : (bigSep Finset.univ fun k : CI => (atPos ER (kcell (c, k)) 0 ∅ 0 : sProp 𝕄))
      = iprop(((hops fun p h => lane8 fun d s => atPos ER (sendCell c (p, h, d, s)) 0 ∅ 0)
        ∗ hops fun p h => lane8 fun d s => atPos ER (recvCell c (p, h, d, s)) 0 ∅ 0) ∗ atPos ER (barCell c) 0 ∅ 0) := by
    rw [cis_eq, trs_eq, trs_eq]; rfl
  unfold G' mineT scr
  rw [s_parts, v_parts, g_parts, o_parts, ha, trs_eq, trs_eq, trs_eq]
  unfold bodyPre
  rw [hu, hc]
  iintro ⟨⟨⟨⟨%K, HR⟩, ⟨⟨HaS, HaV⟩, HaB⟩, ⟨Ht1, Ht0⟩, HtS, HtV⟩, ⟨HcB, HcV⟩, HL⟩, ⟨Hs, Hv, Hg⟩, HO, HT, HW, Ho⟩
  iexists K
  isplitl [HR]; · iexact HR
  isplitl [HL]; · iexact HL
  isplitl [HT]; · iexact HT
  isplitl [HW]; · iexact HW
  isplitl [HO]; · iexact HO
  isplitl [HaB Ht1 Ht0 HcB]
  · isplitl [HaB]; · iexact HaB
    isplitl [Ht1]; · iexact Ht1
    isplitl [Ht0]; · iexact Ht0
    iexact HcB
  isplitl [HaS HtS HtV]
  · isplitl [HaS]; · iexact HaS
    isplitl [HtS]; · iexact HtS
    iexact HtV
  isplitl [HaV HcV]
  · isplitl [HaV]; · iexact HaV
    iexact HcV
  isplitl [Hs]; · iexact Hs
  unfold segs hops
  icases Hg with ⟨Hg, Hg0, Hg1, Hg2⟩
  isplitl [Hv Hg0 Hg1 Hg2]
  · isplitl [Hv]; · iexact Hv
    isplitl [Hg0]; · iexact Hg0
    isplitl [Hg1] <;> iassumption
  isplitl [Hg]; · iexact Hg
  iexact Ho

/-- What the body ends with is the buffers whole and the counters at rest. -/
theorem post_elim : bodyPost T W c
    ⊢ iprop((atRest c ∗ scr c) ∗ (∃ Ws, owes (c : Thread nD τ) 0 Ws) ∗ owns (c : Thread nD τ) tM fullShare (T c) ∗ owns (c : Thread nD τ) wM fullShare (W c)
        ∗ owns (c : Thread nD τ) oM fullShare (outV T W)) := by
  unfold scr
  rw [s_parts, v_parts, g_parts]
  unfold bodyPost atRest
  iintro ⟨HZ, HT, HW, HO, Hs, Hl, Hg, Ho⟩
  ihave Ho := (o_whole T W c) $$ Ho
  unfold segs hops
  icases Hl with ⟨Hv, Hg0, Hg1, Hg2⟩
  isplitl [HZ Hs Hv Hg Hg0 Hg1 Hg2]
  · isplitl [HZ]; · iexact HZ
    isplitl [Hs]; · iexact Hs
    isplitl [Hv]; · iexact Hv
    isplitl [Hg]; · iexact Hg
    isplitl [Hg0]; · iexact Hg0
    isplitl [Hg1] <;> iassumption
  isplitl [HO]; · iexact HO
  isplitl [HT]; · iexact HT
  isplitl [HW] <;> iassumption

end Body

def obPre (c : Dev nD) : sProp 𝕄 :=
  iprop(Φ₀ m c ∗ (dats m ρ 0 c).owesAt () t0_0.castSucc
    ∗ (∃ d, owns (c : Thread nD τ) tM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))
def obPost (c : Dev nD) : sProp 𝕄 :=
  iprop(Φ₁ c ∗ (dats m ρ 0 c).owesAt () t0_0.succ ∗ owns (c : Thread nD τ) tM fullShare (tIn m c)
    ∗ owns (c : Thread nD τ) wM fullShare (wIn m c) ∗ owns (c : Thread nD τ) oM fullShare (outV (tIn m) (wIn m)))

/-- The region's one step calls the ring's body. -/
theorem defs_body : (defs₀ (F := F) Proc.tc cfg0.body (cfg0.bodyArgs t0_0 (cfg0.slots t0_0))) = .op .deviceId fun c => bodyK c := by
  rw [← body_eq]; rfl

/-- The body, on what it starts from. -/
theorem body_sound (c : Dev nD) : obPre m ρ c ⊢ wpK c (bodyK c) fun _ => obPost m ρ c := by
  unfold obPre Φ₀ start
  iintro ⟨⟨Hst, Hscr⟩, HO, ⟨%d0, HT⟩, ⟨%d1, HW⟩, ⟨%d2, Ho⟩⟩
  rw [before_0, before_1]
  icases HO with ⟨%Ws, -, HO⟩
  ihave H := (pre_intro (tIn m) (wIn m) c) $$ [Hst Hscr HO HT HW Ho]
  · isplitl [Hst]; · iexact Hst
    isplitl [Hscr]; · iexact Hscr
    isplitl [HO]; · iexists Ws; iexact HO
    isplitl [HT]; · iexact HT
    isplitl [HW]; · iexact HW
    unfold ownsAny; iexists _; iexact Ho
  icases H with ⟨%K, H⟩
  iapply (run_body (tIn m) (wIn m) K c fun _ => obPost m ρ c)
  isplitl [H]; · iexact H
  iintro H
  ihave H := (post_elim (tIn m) (wIn m) c) $$ H
  icases H with ⟨HΦ, ⟨%Ws', HO⟩, HT, HW, Ho⟩
  unfold obPost Φ₁
  isplitl [HΦ]; · iexact HΦ
  isplitl [HO]
  · iexists Ws'
    isplitr
    · ipureintro; exact fun _ _ => Or.inl trivial
    iexact HO
  isplitl [HT]; · iexact HT
  isplitl [HW] <;> iassumption

/-- A program that asks for its device and goes on as `B` of it. -/
theorem wpK_asked {B : Dev nD → Prog (TpuEff nD τ sig (Elt F) Λ₀ .tc) PUnit} {P : sProp (MT nD τ sig Unit (Elt F) ℕ UU ℕ)}
    {Q : PUnit → sProp (MT nD τ sig Unit (Elt F) ℕ UU ℕ)} {c : Dev nD} (h : P ⊢ wpK c (B c) Q) : P ⊢ wpK c (.op .deviceId fun c => B c) Q := by
  unfold wpK at h ⊢
  rw [wp_deviceId]; exact h

/-- The body's obligation on device `c`. -/
theorem body_obligation (c : Dev nD) : BodyObligation (dats (F := F) m ρ 0 c) (defs₀ (F := F)) 𝒱₀ () Set.univ := fun t => by
  rw [fin_N0 t, bigSep_W0, bigSep_W0, defs_body]
  refine BIBase.Entails.trans (Q := obPre m ρ c) ?a (BIBase.Entails.trans (Q := wpK c (.op .deviceId fun c => bodyK c) fun _ => obPost m ρ c)
    (wpK_asked (body_sound m ρ c)) ?b)
  case a =>
    unfold obPre
    exact sep_mono .rfl (sep_mono .rfl (sep_mono .rfl (sep_mono .rfl .rfl)))
  case b =>
    generalize (Prog.op TpuEff.deviceId fun c => bodyK (F := F) c) = B
    unfold wpK
    apply wp_mono
    intro _
    unfold obPost
    exact sep_mono .rfl (sep_mono .rfl (sep_mono .rfl (sep_mono .rfl .rfl)))

/-! ## The launch -/

theorem ownSemFacts : Pipeline.OwnSemFacts cfg0.spec osem where
  isScoped k := by unfold osem csem; revert k; decide +kernel
  inj k k' h := Option.some_injective _ (csem_inj h)
  disj := by unfold osem csem; decide +kernel

theorem share_eq (c : Dev nD) (w : Fin cfg0.W) : (dats m ρ 0 c).share w = fullShare := by unfold Dat.share; split <;> rfl

/-- A scratch buffer owned whole, whatever it holds, is its memref's. -/
theorem scr_eq (c : Dev nD) (b : Ref sig .tc) :
    (iprop(∃ X, owns (c : Thread nD τ) (Memref.whole b) fullShare X) : sProp 𝕄) = iprop(∃ f : Buf (Elt F) ((c : Thread nD τ).loc b), (c : Thread nD τ).loc b ↦{fullShare} f) := by
  simp only [owns_whole_eq]
  refine Entails.antisymm (show ((_ : sProp 𝕄) ⊢ _) from ?_) (show ((_ : sProp 𝕄) ⊢ _) from ?_)
  · iintro ⟨%X, %f, -, H⟩
    iexists f; iexact H
  · iintro ⟨%f, H⟩
    iexists f, f
    isplitr; · ipureintro; rfl
    iexact H

/-- The three scratch buffers as the launch hands them over. -/
theorem scr_pts (c : Dev nD) : scr (F := F) c
    = iprop((∃ f, (c : Thread nD τ).loc cc0_scratch0 ↦{fullShare} f) ∗ (∃ f, (c : Thread nD τ).loc cc0_scratch1 ↦{fullShare} f)
        ∗ ∃ f, (c : Thread nD τ).loc cc0_scratch2 ↦{fullShare} f) := by
  have h0 : ownsAny (F := F) c sM = _ := scr_eq c cc0_scratch0
  have h1 : ownsAny (F := F) c vM = _ := scr_eq c cc0_scratch1
  have h2 : ownsAny (F := F) c gM = _ := scr_eq c cc0_scratch2
  unfold scr
  rw [h0, h1, h2]

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (tIn m) (wIn m) c)
      ⊢ |={Set.univ}=> iprop(start m c ∗ emp) := by
  iintro ⟨-, HL, Hc, -, HG⟩
  ihave Hc := (creds (F := F) c) $$ Hc
  imodintro
  unfold start
  isplitl
  · isplitl [HG]; · iexact HG
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [scr_pts]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ atRest
  rw [scr_pts]
  iintro ⟨⟨HB, HZ⟩, Hr⟩
  isplitl [HB]; · iexact HB
  isplitl [HZ]; · iexact HZ
  iexact Hr

/-- The pipeline's own waits lie below everything a device still owes. -/
theorem waits (c : Dev nD) : (levAts L lv : sProp 𝕄) ⊢ Pipeline.cellsWaits cfgs (dats m ρ) () 0 c :=
  Pipeline.cellsWaits_intro cfgs (dats m ρ) () 0 c fun w s t => by
    have hq : ((cfg0.win w).sem s).val < 51 := by fin_cases w <;> fin_cases s <;> decide
    rcases t with ⟨_ | _, ht⟩
    · exact mayWait_stage c _ hq
    · have h := mayWait_low (F := F) c _ hq 48
      rw [owe_end] at h
      exact h

/-! ## The run -/

/-- What window `w`'s array holds at the end on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Over any float values, from any memory with every counter at zero: every weakly fair execution of the four devices
    terminates, with each array at its final contents and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G (tIn m) (wIn m)) (G' := G' (tIn m) (wIn m)) (u₀ := u₀)
    (hu₀ := by
      unfold u₀
      iintro Hu
      ihave H := (ownU_pair _ _) $$ Hu
      icases H with ⟨HP, HX⟩
      imod (fund_ring (tIn m) (wIn m)) $$ HX with HG
      imodintro
      isplitl [HP] <;> iassumption)
    (hglob := glob (tIn m) (wIn m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays end as they began. -/
theorem finalA_t (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- What the region reads of each argument is the argument. -/
theorem tIn_eq (c : Dev nD) : tIn m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem wIn_eq (c : Dev nD) : wIn m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The result array ends as the ring's values. -/
theorem finalA_o (c : Dev nD) : finalA m ρ c (2 : Fin 3) = outV (tIn m) (wIn m) := by
  have hz : (fun a => (win0_2.index (0 : Fin 1)) a * main_v1.ty.shape.size a) = fun _ => 0 :=
    funext fun a => by fin_cases a <;> decide
  have hr := Memref.read_access_unit_zero (Elt F) main_v1 hz (fun a => by fin_cases a <;> decide) (finalA m ρ c (2 : Fin 3))
  rw [← hr]
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

end Cert.RingProof
-- ==== Proof.Value.lean ====
/-
# The ring's result is the product of the sum

Over the reals, what the ring leaves at every index of every device's result is the sum, over the contracted
coordinate, of the summed rows times the weights; and so is what the reference computes.
-/
module

public import proofs.«01_k».proof.Proof.Parts
public import proofs.«01_k».proof.Proof.Gen.ReferenceIdeal
public import Idealize.ShloMosaic.Lib.MatmulPlain
public import Idealize.ShloMosaic.Lib.StackMember
public import Idealize.ShloMosaic.Lib.Pointwise
public import Idealize.ShloMosaic.Lib.Layout
public import Idealize.ShloMosaic.Lib.Pipeline.Value

@[expose] public section

noncomputable section

namespace Cert.RingProof

open Cert.KernelIdeal Cert.KernelIdeal.Gen
open Idealize.ShloMosaic
open scoped BigOperators

/-! ## The ring's sum -/

/-- A sum taken in the order the ring takes it is the sum over the devices. -/
theorem ring_sum (f : Dev nD → EReal) (d : Fin 2) (c : Dev nD) :
    f (bk d (bk d (bk d c))) + f (bk d (bk d c)) + f (bk d c) + f c = ∑ k : Dev nD, f k := by
  have hb : Function.Bijective ![bk d (bk d (bk d c)), bk d (bk d c), bk d c, c] := by revert d c; decide
  rw [← hb.sum_comp f, Fin.sum_univ_four]
  rfl

/-- The chunk a device adds at each hop is the chunk the sum is on its way to. -/
theorem inCh_bk : ∀ (d : Fin 2) (c : Dev nD), inCh (bk d (bk d (bk d c))) d 0 = c ∧ inCh (bk d (bk d c)) d 1 = c ∧ inCh (bk d c) d 2 = c := by decide

variable (T : Dev nD → FVec Ideal S4096x1024 .f32) (W : Dev nD → FVec Ideal S1024x1024 .f32)

/-- The block a device multiplies holds the sum of the devices' blocks. -/
theorem sum_block (c : Dev nD) (d : Fin 2) (s : Fin 4) (i : S128x1024.Idx) :
    addf (sv T d s 2 (bk d c)) (rnd (seg (T c) c d s)) i = ∑ k : Dev nD, seg (T k) c d s i := by
  obtain ⟨h0, h1, h2⟩ := inCh_bk d c
  rw [← ring_sum (fun k => seg (T k) c d s i) d c]
  show (seg (T (bk d (bk d (bk d c)))) (inCh (bk d (bk d (bk d c))) d 0) d s i + seg (T (bk d (bk d c))) (inCh (bk d (bk d c)) d 1) d s i)
      + seg (T (bk d c)) (inCh (bk d c) d 2) d s i + seg (T c) c d s i = _
  rw [h0, h1, h2]

/-- The weights the product reads are the weights. -/
theorem pay10_ideal (w : FVec Ideal S1024x1024 .f32) : (k0_pay10 w : FVec Ideal S1024x1024 .bf16) = w := by
  unfold k0_pay10
  funext x
  show shapeCast S1024x1024 w shapeCasts_S1024x1024_S1024x1024 x = w x
  rw [shapeCast_self]

/-- A block times the weights, at an index. -/
theorem mulW_ideal (w : FVec Ideal S1024x1024 .bf16) (x : FVec Ideal S128x1024 .bf16) (r : Fin 128) (q : Fin 1024) :
    mulW w x (ValueIdx.ix2 r q) = ∑ k : Fin 1024, x (ValueIdx.ix2 r k) * w (ValueIdx.ix2 k q) := by
  show FloatOps.matmul (DotDims.plain 128 1024 1024) none x w (constant S128x1024 .f32 0x00000000#32) (ValueIdx.ix2 r q) = _
  rw [Ideal.matmul_plain_apply]
  rw [show (constant S128x1024 .f32 0x00000000#32 : FVec Ideal S128x1024 .f32) (ValueIdx.ix2 r q) = 0 from Ideal.ofBits_zero_f32]
  rw [zero_add]

/-- What every device's result holds at row `a`, column `q`. -/
theorem outV_ideal (w : FVec Ideal S1024x1024 .f32) (hW : ∀ c, W c = w) (a : Fin 4096) (q : Fin 1024) :
    outV T W (ValueIdx.ix2 a q) = ∑ k : Fin 1024, (∑ e : Dev nD, T e (ValueIdx.ix2 a k)) * w (ValueIdx.ix2 k q) := by
  have hi : inOf (ValueIdx.ix2 a q) = ValueIdx.ix2 ⟨a.val % 128, Nat.mod_lt _ (by decide)⟩ q := by
    funext b; match b with
    | ⟨0, _⟩ => rfl
    | ⟨1, _⟩ => rfl
  show yv T W _ _ _ (inOf (ValueIdx.ix2 a q)) = _
  rw [hi]
  unfold yv
  rw [mulW_ideal]
  refine Finset.sum_congr rfl fun k _ => ?_
  rw [sum_block, hW, pay10_ideal]
  congr 1
  refine Finset.sum_congr rfl fun e _ => ?_
  unfold seg
  congr 1
  funext b; apply Fin.ext
  match b with
  | ⟨0, _⟩ =>
    refine (emb_row _ _ _ _).trans ?_
    show 1024 * (a.val / 1024) + 512 * (a.val / 512 % 2) + 128 * (a.val / 128 % 4) + a.val % 128 = a.val
    omega
  | ⟨1, _⟩ => exact emb_col _ _ _ _

/-! ## The reference -/

/-- The reference's value of arguments `X` and `w`. -/
def refV (X : FVec Ideal ⟨2, ![16384, 1024]⟩ .f32) (w : FVec Ideal S1024x1024 .f32) : FVec Ideal S4096x1024 .f32 :=
  Host.dotGeneral Cert.ReferenceIdeal.dot_S4096x1024_S1024x1024_S4096x1024_1_0_0_1_n_n none
    (Host.reduceAdd (shapeCast Cert.ReferenceIdeal.S4x4096x1024 X Cert.ReferenceIdeal.Facts₀.shapeCasts_S16384x1024_S4x4096x1024)
      (constant Cert.ReferenceIdeal.S_ .f32 0x00000000#32) Cert.ReferenceIdeal.Facts₀.reducesTo_S4x4096x1024_S4096x1024_d0 Cert.ReferenceIdeal.Facts₀.h_S_) w

/-- The rows device `e` holds are the rows the reference sums at leading coordinate `e`. -/
theorem cast_block (X : FVec Ideal ⟨2, ![16384, 1024]⟩ .f32) (e : Fin 4) (a : Fin 4096) (k : Fin 1024) :
    shapeCast Cert.ReferenceIdeal.S4x4096x1024 X Cert.ReferenceIdeal.Facts₀.shapeCasts_S16384x1024_S4x4096x1024 (ValueIdx.ix3 e a k)
      = Layout.block ⟨2, ![4096, 1024]⟩ ⟨2, ![16384, 1024]⟩ 0 4 e X (by decide) (ValueIdx.ix2 a k) := by
  refine shapeCast_apply _ _ _ _ ?_
  rw [Shape.rowMajor_val_two, Shape.rowMajor_val_three]
  show (e.val * 4096 + a.val) * 1024 + k.val = (e.val * 4096 + a.val) * 1024 + k.val
  rfl

/-- What the reference computes at row `a`, column `q`. -/
theorem refV_ideal (X : FVec Ideal ⟨2, ![16384, 1024]⟩ .f32) (w : FVec Ideal S1024x1024 .f32) (a : Fin 4096) (q : Fin 1024) :
    refV X w (ValueIdx.ix2 a q) = ∑ k : Fin 1024, (∑ e : Fin 4, Layout.block ⟨2, ![4096, 1024]⟩ ⟨2, ![16384, 1024]⟩ 0 4 e X (by decide) (ValueIdx.ix2 a k)) * w (ValueIdx.ix2 k q) := by
  unfold refV
  refine (StackMember.dotGeneral_plain_apply none _ _ a q).trans (Finset.sum_congr rfl fun k _ => ?_)
  congr 1
  rw [Host.reduceAdd_apply]
  refine (Ideal.hostReduceAdd_r3_a0 _ _ _ _).trans ?_
  rw [show (constant Cert.ReferenceIdeal.S_ .f32 0x00000000#32 : FVec Ideal Cert.ReferenceIdeal.S_ .f32) _ = 0 from Ideal.ofBits_zero_f32, zero_add]
  exact Finset.sum_congr rfl fun e _ => cast_block X e a k

/-- The ring's result is the reference's value, when each device holds its block of `X` and all hold `w`. -/
theorem outV_eq_refV (X : FVec Ideal ⟨2, ![16384, 1024]⟩ .f32) (w : FVec Ideal S1024x1024 .f32)
    (hT : ∀ c, T c = Layout.block ⟨2, ![4096, 1024]⟩ ⟨2, ![16384, 1024]⟩ 0 4 c X) (hW : ∀ c, W c = w) : outV T W = refV X w := by
  funext x
  obtain ⟨a, q, rfl⟩ : ∃ (a : Fin 4096) (q : Fin 1024), x = ValueIdx.ix2 a q := ⟨x 0, x 1, ValueIdx.eq_ix2 x⟩
  rw [outV_ideal T W w hW, refV_ideal]
  simp only [hT]

end Cert.RingProof
-- ==== Proof.Same.lean ====
/-
# One text, two names

The kernel and its reading over the reals are one text: their tables of bodies are the same over any float values.
-/
module

public import proofs.«01_k».proof.Defs
public import proofs.«01_k».proof.Proof.Gen.Kernel
public import proofs.«01_k».proof.Proof.Gen.KernelIdeal

@[expose] public section

noncomputable section

namespace Cert.RingProof

open Idealize.ShloMosaic

variable {F : FTy → Type} [FloatOps F]

/-- The two tables run the same body at the one label. -/
theorem defs₀_same : Cert.Kernel.defs₀ (F := F) = Cert.KernelIdeal.defs₀ := by
  unfold Cert.Kernel.defs₀ Cert.KernelIdeal.defs₀
  refine congrArg Defs.onTc (funext fun l => funext fun a => ?_)
  match l, a with
  | ⟨0, _⟩, (_, _) => rfl
  | ⟨n + 1, h⟩, _ => exact absurd h (Nat.not_lt.2 (Nat.le_add_left _ _))

/-- So do the tables with the pipeline's own rows. -/
theorem defs_same : Cert.Kernel.defs (F := F) = Cert.KernelIdeal.defs := by
  unfold Cert.Kernel.defs Cert.KernelIdeal.defs
  rw [defs₀_same]; rfl

end Cert.RingProof
-- ==== Proof.lean ====
/-
# The claims

The run of the ring on four devices, read as the claims: the kernel and the reference run to rest with their
arguments unchanged, and over the reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- Over any float values the kernel runs to rest, its arguments unchanged. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.RingProof.finalA_t m ρ c), (h.1 c (1 : Fin 3)).trans (Cert.RingProof.finalA_w m ρ c)⟩, h.2⟩)
    (Cert.RingProof.run_main m ρ)

/-- The kernel runs to rest, its arguments unchanged, on the device's own floats. -/
theorem frame_kernel : Cert.quiescent_Kernel := fun m ρ _ => by
  rw [Cert.RingProof.defs_same]
  exact frame (F := Bits) m ρ

/-- The kernel runs to rest, its arguments unchanged, over the reals. -/
theorem frame_ideal : Cert.quiescent_KernelIdeal := fun m ρ _ => frame (F := Ideal) m ρ

/-- The reference runs to rest, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals, from each device's block of the rows and the same weights, every device's result ends as the
    reference's. -/
theorem algebraic : Cert.algebraic_KernelIdeal_ReferenceIdeal := fun m ρ m' ρ' _ hm =>
  ⟨Cert.RingProof.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Cert.RingProof.finalA_o m ρ c)).trans
          (Cert.RingProof.outV_eq_refV _ _ _ _ (fun c => (Cert.RingProof.tIn_eq m c).trans (hm c).1) fun c => (Cert.RingProof.wIn_eq m c).trans (hm c).2),
        (h.1 c (0 : Fin 3)).trans (Cert.RingProof.finalA_t m ρ c), (h.1 c (1 : Fin 3)).trans (Cert.RingProof.finalA_w m ρ c)⟩)
      (Cert.RingProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
